-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S10000x256 : Shape := ⟨2, ![10000, 256]⟩
abbrev S2x160000 : Shape := ⟨2, ![2, 160000]⟩
abbrev S10000 : Shape := ⟨1, ![10000]⟩
abbrev S256x1 : Shape := ⟨2, ![256, 1]⟩
abbrev S1 : Shape := ⟨1, ![1]⟩
abbrev S256x256 : Shape := ⟨2, ![256, 256]⟩
abbrev S256 : Shape := ⟨1, ![256]⟩
abbrev S100 : Shape := ⟨1, ![100]⟩
abbrev S1x160000 : Shape := ⟨2, ![1, 160000]⟩
abbrev S160000 : Shape := ⟨1, ![160000]⟩
abbrev S10000x1 : Shape := ⟨2, ![10000, 1]⟩
abbrev S1x1 : Shape := ⟨2, ![1, 1]⟩
abbrev S_ : Shape := ⟨0, ![]⟩
abbrev S160000x1 : Shape := ⟨2, ![160000, 1]⟩
abbrev S1x10000 : Shape := ⟨2, ![1, 10000]⟩
abbrev S10000x10000 : Shape := ⟨2, ![10000, 10000]⟩
abbrev S9999 : Shape := ⟨1, ![9999]⟩
abbrev S9488 : Shape := ⟨1, ![9488]⟩

class Facts : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  bcast_S_S10000 : S_.BroadcastsInDim S10000 (![] : Fin 0 → Fin S10000.rank)
  bcast_S_S160000 : S_.BroadcastsInDim S160000 (![] : Fin 0 → Fin S160000.rank)
  bcast_S160000_S160000x1_0 : S160000.BroadcastsInDim S160000x1 (![0] : Fin 1 → Fin S160000x1.rank)
  bcast_S_S10000x1 : S_.BroadcastsInDim S10000x1 (![] : Fin 0 → Fin S10000x1.rank)
  bcast_S10000_S10000x1_0 : S10000.BroadcastsInDim S10000x1 (![0] : Fin 1 → Fin S10000x1.rank)
  shapeCasts_S10000x1_S10000 : S10000x1.ShapeCasts S10000
  bcast_S10000_S1x10000_1 : S10000.BroadcastsInDim S1x10000 (![1] : Fin 1 → Fin S1x10000.rank)
  bcast_S10000x1_S10000x10000_0_1 : S10000x1.BroadcastsInDim S10000x10000 (![0, 1] : Fin 2 → Fin S10000x10000.rank)
  bcast_S1x10000_S10000x10000_0_1 : S1x10000.BroadcastsInDim S10000x10000 (![0, 1] : Fin 2 → Fin S10000x10000.rank)
  slices_S10000_S9999_0 : S10000.Slices ![0] S9999
  slices_S10000_S9999_1 : S10000.Slices ![1] S9999
  slices_S10000_S9488_0 : S10000.Slices ![0] S9488
  slices_S10000_S9488_512 : S10000.Slices ![512] S9488
  dot_S10000x256_S256x1_S10000x1_1_0_0_1_n_n_wf : DotDims.WF S10000x256 S256x1 S10000x1 [1] [0] [0] [1] [] []
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  gather_S10000x1_S160000x1_S160000x1_1_0_n_n_0_1_11_wf : GatherDims.WF S10000x1 S160000x1 S160000x1 [1] [0] [] [0] [] 1 ![1, 1]
  scatter_S10000x1_S160000x1_S160000x1_1_0_0_1_wf : ScatterDims.WF S10000x1 S160000x1 S160000x1 [1] [0] [0] 1

variable [Facts]

def dot_S10000x256_S256x1_S10000x1_1_0_0_1_n_n : DotDims S10000x256 S256x1 S10000x1 where
  lhsContracting := [1]
  rhsContracting := [0]
  lhsNonContracting := [0]
  rhsNonContracting := [1]
  lhsBatch := []
  rhsBatch := []
  wf := dot_S10000x256_S256x1_S10000x1_1_0_0_1_n_n_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def gather_S10000x1_S160000x1_S160000x1_1_0_n_n_0_1_11 : GatherDims S10000x1 S160000x1 S160000x1 where
  offsetDims := [1]
  collapsedSliceDims := [0]
  operandBatchingDims := []
  startIndicesBatchingDims := []
  startIndexMap := [0]
  indexVectorDim := 1
  sliceSizes := ![1, 1]
  wf := gather_S10000x1_S160000x1_S160000x1_1_0_n_n_0_1_11_wf
def scatter_S10000x1_S160000x1_S160000x1_1_0_0_1 : ScatterDims S10000x1 S160000x1 S160000x1 where
  updateWindowDims := [1]
  insertedWindowDims := [0]
  scatterDimsToOperandDims := [0]
  indexVectorDim := 1
  wf := scatter_S10000x1_S160000x1_S160000x1_1_0_0_1_wf
def fn_clip {F : FTy → Type} [FloatOps F] (arg0 : IVec S160000 32) (arg1 : IVec S_ 32) : IVec S160000 32 :=
  let v0 : IVec S_ 32 := id arg1
  let v1 : IVec S160000 32 := broadcastInDim S160000 ![] bcast_S_S160000 v0
  let v2 : IVec S160000 32 := maxsi v1 arg0
  v2

def fn_part4 {F : FTy → Type} [FloatOps F] (main_arg2 : IVec S10000 32) (main_v68 : FVec F S10000 .f32) (main_v74 : IVec S10000x10000 1) (main_v76 : IVec S1x10000 32) (main_v77 : IVec S10000x10000 32) : IVec S10000 1 × IVec S9999 1 × IVec S9488 1 × IVec S10000x10000 1 :=
  let main_v78 : IVec S10000x10000 32 := broadcastInDim S10000x10000 ![0, 1] bcast_S1x10000_S10000x10000_0_1 main_v76
  let main_v79 : IVec S10000x10000 1 := cmpi .eq main_v77 main_v78
  let main_c_16 : IVec S_ 32 := constantI S_ 32 0#32
  let main_v80 : IVec S10000 32 := broadcastInDim S10000 ![] bcast_S_S10000 main_c_16
  let main_v81 : IVec S10000 1 := cmpi .sge main_arg2 main_v80
  let main_c_17 : IVec S_ 32 := constantI S_ 32 64#32
  let main_v82 : IVec S10000 32 := broadcastInDim S10000 ![] bcast_S_S10000 main_c_17
  let main_v83 : IVec S10000 1 := cmpi .slt main_arg2 main_v82
  let main_v84 : IVec S10000 1 := andi main_v81 main_v83
  let main_v85 : IVec S9999 32 := (extractStridedSlice S9999 ![0] · slices_S10000_S9999_0) main_arg2
  let main_v86 : IVec S9999 32 := (extractStridedSlice S9999 ![1] · slices_S10000_S9999_1) main_arg2
  let main_v87 : IVec S9999 1 := cmpi .sle main_v85 main_v86
  let main_v88 : IVec S9488 32 := (extractStridedSlice S9488 ![0] · slices_S10000_S9488_0) main_arg2
  let main_v89 : IVec S9488 32 := (extractStridedSlice S9488 ![512] · slices_S10000_S9488_512) main_arg2
  let main_v90 : IVec S9488 1 := cmpi .slt main_v88 main_v89
  let main_v91 : FVec F S10000x1 .f32 := broadcastInDim S10000x1 ![0] bcast_S10000_S10000x1_0 main_v68
  let main_v92 : FVec F S1x10000 .f32 := broadcastInDim S1x10000 ![1] bcast_S10000_S1x10000_1 main_v68
  let main_v93 : FVec F S10000x10000 .f32 := broadcastInDim S10000x10000 ![0, 1] bcast_S10000x1_S10000x10000_0_1 main_v91
  let main_v94 : FVec F S10000x10000 .f32 := broadcastInDim S10000x10000 ![0, 1] bcast_S1x10000_S10000x10000_0_1 main_v92
  let main_v95 : IVec S10000x10000 1 := cmpf .une main_v93 main_v94
  let main_v96 : IVec S10000x10000 1 := ori main_v95 main_v74
  let main_v97 : IVec S10000x10000 1 := ori main_v96 main_v79
  (main_v84, main_v87, main_v90, main_v97)

def fn_part3 {F : FTy → Type} [FloatOps F] (main_arg2 : IVec S10000 32) (main_v3 : IVec S160000 32) (main_v7 : FVec F S10000x1 .f32) (main_v11 : FVec F S10000x1 .f32) (main_v24 : FVec F S10000 .f32) (main_v43 : FVec F S10000x1 .f32) (main_v52 : FVec F S160000x1 .f32) (main_v54 : IVec S160000 1) (main_v55 : IVec S160000 32) : IVec S10000 1 × IVec S9999 1 × IVec S9488 1 × IVec S10000x10000 1 :=
  let main_v56 : IVec S160000 32 := addi main_v3 main_v55
  let main_v57 : IVec S160000 32 := select main_v54 main_v56 main_v3
  let main_v58 : IVec S160000x1 32 := broadcastInDim S160000x1 ![0] bcast_S160000_S160000x1_0 main_v57
  let main_v59 : FVec F S10000x1 .f32 := (fun x i u => Host.scatterAdd scatter_S10000x1_S160000x1_S160000x1_1_0_0_1 x i u) main_v43 main_v58 main_v52
  let main_v60 : FVec F S10000x1 .f32 := broadcastInDim S10000x1 ![0] bcast_S10000_S10000x1_0 main_v24
  let main_v61 : FVec F S10000x1 .f32 := Host.divf main_v11 main_v60
  let main_v62 : FVec F S10000x1 .f32 := addf main_v59 main_v61
  let main_cst_14 : FVec F S_ .f32 := constant S_ .f32 0x3F000000#32
  let main_v63 : FVec F S10000x1 .f32 := broadcastInDim S10000x1 ![] bcast_S_S10000x1 main_cst_14
  let main_v64 : FVec F S10000x1 .f32 := mulf main_v63 main_v7
  let main_cst_15 : FVec F S_ .f32 := constant S_ .f32 0x3F000000#32
  let main_v65 : FVec F S10000x1 .f32 := broadcastInDim S10000x1 ![] bcast_S_S10000x1 main_cst_15
  let main_v66 : FVec F S10000x1 .f32 := mulf main_v65 main_v62
  let main_v67 : FVec F S10000x1 .f32 := addf main_v64 main_v66
  let main_v68 : FVec F S10000 .f32 := shapeCast S10000 main_v67 shapeCasts_S10000x1_S10000
  let main_v69 : IVec S10000 32 := iotaInDim S10000 32 0
  let main_v70 : IVec S10000x1 32 := broadcastInDim S10000x1 ![0] bcast_S10000_S10000x1_0 main_arg2
  let main_v71 : IVec S1x10000 32 := broadcastInDim S1x10000 ![1] bcast_S10000_S1x10000_1 main_arg2
  let main_v72 : IVec S10000x10000 32 := broadcastInDim S10000x10000 ![0, 1] bcast_S10000x1_S10000x10000_0_1 main_v70
  let main_v73 : IVec S10000x10000 32 := broadcastInDim S10000x10000 ![0, 1] bcast_S1x10000_S10000x10000_0_1 main_v71
  let main_v74 : IVec S10000x10000 1 := cmpi .ne main_v72 main_v73
  let main_v75 : IVec S10000x1 32 := broadcastInDim S10000x1 ![0] bcast_S10000_S10000x1_0 main_v69
  let main_v76 : IVec S1x10000 32 := broadcastInDim S1x10000 ![1] bcast_S10000_S1x10000_1 main_v69
  let main_v77 : IVec S10000x10000 32 := broadcastInDim S10000x10000 ![0, 1] bcast_S10000x1_S10000x10000_0_1 main_v75
  fn_part4 (F := F) main_arg2 main_v68 main_v74 main_v76 main_v77

def fn_part2 {F : FTy → Type} [FloatOps F] (main_arg2 : IVec S10000 32) (main_v1 : IVec S160000 32) (main_v3 : IVec S160000 32) (main_v7 : FVec F S10000x1 .f32) (main_v11 : FVec F S10000x1 .f32) (main_v24 : FVec F S10000 .f32) (main_v31 : FVec F S160000 .f32) (main_v37 : IVec S160000x1 32) : IVec S10000 1 × IVec S9999 1 × IVec S9488 1 × IVec S10000x10000 1 :=
  let main_v38 : FVec F S160000 .f32 := (fun x i => Host.gather gather_S10000_S160000x1_S160000_n_0_n_n_0_1_1 x i) main_v24 main_v37
  let main_v39 : FVec F S160000 .f32 := mulf main_v31 main_v38
  let main_v40 : FVec F S160000 .f32 := Host.sqrt main_v39
  let main_cst_8 : FVec F S_ .f32 := constant S_ .f32 0x3F800000#32
  let main_v41 : FVec F S160000 .f32 := broadcastInDim S160000 ![] bcast_S_S160000 main_cst_8
  let main_v42 : FVec F S160000 .f32 := Host.divf main_v41 main_v40
  let main_cst_9 : FVec F S_ .f32 := constant S_ .f32 0x00000000#32
  let main_v43 : FVec F S10000x1 .f32 := broadcastInDim S10000x1 ![] bcast_S_S10000x1 main_cst_9
  let main_v44 : FVec F S160000x1 .f32 := broadcastInDim S160000x1 ![0] bcast_S160000_S160000x1_0 main_v42
  let main_c_10 : IVec S_ 32 := constantI S_ 32 0#32
  let main_v45 : IVec S160000 32 := broadcastInDim S160000 ![] bcast_S_S160000 main_c_10
  let main_v46 : IVec S160000 1 := cmpi .slt main_v1 main_v45
  let main_c_11 : IVec S_ 32 := constantI S_ 32 10000#32
  let main_v47 : IVec S160000 32 := broadcastInDim S160000 ![] bcast_S_S160000 main_c_11
  let main_v48 : IVec S160000 32 := addi main_v1 main_v47
  let main_v49 : IVec S160000 32 := select main_v46 main_v48 main_v1
  let main_v50 : IVec S160000x1 32 := broadcastInDim S160000x1 ![0] bcast_S160000_S160000x1_0 main_v49
  let main_v51 : FVec F S160000x1 .f32 := (fun x i => Host.gather gather_S10000x1_S160000x1_S160000x1_1_0_n_n_0_1_11 x i) main_v11 main_v50
  let main_v52 : FVec F S160000x1 .f32 := mulf main_v44 main_v51
  let main_c_12 : IVec S_ 32 := constantI S_ 32 0#32
  let main_v53 : IVec S160000 32 := broadcastInDim S160000 ![] bcast_S_S160000 main_c_12
  let main_v54 : IVec S160000 1 := cmpi .slt main_v3 main_v53
  let main_c_13 : IVec S_ 32 := constantI S_ 32 10000#32
  let main_v55 : IVec S160000 32 := broadcastInDim S160000 ![] bcast_S_S160000 main_c_13
  fn_part3 (F := F) main_arg2 main_v3 main_v7 main_v11 main_v24 main_v43 main_v52 main_v54 main_v55

def fn_part1 {F : FTy → Type} [FloatOps F] (main_arg2 : IVec S10000 32) (main_v1 : IVec S160000 32) (main_v3 : IVec S160000 32) (main_v7 : FVec F S10000x1 .f32) (main_v11 : FVec F S10000x1 .f32) (main_v12 : IVec S10000 32) (main_v19 : IVec S160000x1 32) : IVec S10000 1 × IVec S9999 1 × IVec S9488 1 × IVec S10000x10000 1 :=
  let main_c_3 : IVec S_ 32 := constantI S_ 32 1#32
  let main_v20 : IVec S160000 32 := broadcastInDim S160000 ![] bcast_S_S160000 main_c_3
  let main_v21 : IVec S10000 32 := (fun x i u => Host.scatter scatter_S10000_S160000x1_S160000_n_0_0_1 IntOp.addi x i u) main_v12 main_v19 main_v20
  let main_v22 : FVec F S10000 .f32 := sitofp .f32 main_v21
  let main_cst : FVec F S_ .f32 := constant S_ .f32 0x3F800000#32
  let main_v23 : FVec F S10000 .f32 := broadcastInDim S10000 ![] bcast_S_S10000 main_cst
  let main_v24 : FVec F S10000 .f32 := addf main_v22 main_v23
  let main_c_4 : IVec S_ 32 := constantI S_ 32 0#32
  let main_v25 : IVec S160000 32 := broadcastInDim S160000 ![] bcast_S_S160000 main_c_4
  let main_v26 : IVec S160000 1 := cmpi .slt main_v1 main_v25
  let main_c_5 : IVec S_ 32 := constantI S_ 32 10000#32
  let main_v27 : IVec S160000 32 := broadcastInDim S160000 ![] bcast_S_S160000 main_c_5
  let main_v28 : IVec S160000 32 := addi main_v1 main_v27
  let main_v29 : IVec S160000 32 := select main_v26 main_v28 main_v1
  let main_v30 : IVec S160000x1 32 := broadcastInDim S160000x1 ![0] bcast_S160000_S160000x1_0 main_v29
  let main_v31 : FVec F S160000 .f32 := (fun x i => Host.gather gather_S10000_S160000x1_S160000_n_0_n_n_0_1_1 x i) main_v24 main_v30
  let main_c_6 : IVec S_ 32 := constantI S_ 32 0#32
  let main_v32 : IVec S160000 32 := broadcastInDim S160000 ![] bcast_S_S160000 main_c_6
  let main_v33 : IVec S160000 1 := cmpi .slt main_v3 main_v32
  let main_c_7 : IVec S_ 32 := constantI S_ 32 10000#32
  let main_v34 : IVec S160000 32 := broadcastInDim S160000 ![] bcast_S_S160000 main_c_7
  let main_v35 : IVec S160000 32 := addi main_v3 main_v34
  let main_v36 : IVec S160000 32 := select main_v33 main_v35 main_v3
  let main_v37 : IVec S160000x1 32 := broadcastInDim S160000x1 ![0] bcast_S160000_S160000x1_0 main_v36
  fn_part2 (F := F) main_arg2 main_v1 main_v3 main_v7 main_v11 main_v24 main_v31 main_v37

def fn {F : FTy → Type} [FloatOps F] (main_arg0 : FVec F S10000x256 .f32) (main_arg1 : IVec S2x160000 32) (main_arg2 : IVec S10000 32) (main_arg3 : FVec F S256x1 .f32) (main_arg4 : FVec F S1 .f32) (main_arg5 : FVec F S256x1 .f32) (main_arg6 : FVec F S1 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S100 .f32) (main_arg16 : FVec F S1 .f32) : IVec S10000 1 × IVec S9999 1 × IVec S9488 1 × IVec S10000x10000 1 :=
  let main_v0 : IVec S1x160000 32 := (extractStridedSlice S1x160000 ![0, 0] · slices_S2x160000_S1x160000_0_0) main_arg1
  let main_v1 : IVec S160000 32 := shapeCast S160000 main_v0 shapeCasts_S1x160000_S160000
  let main_v2 : IVec S1x160000 32 := (extractStridedSlice S1x160000 ![1, 0] · slices_S2x160000_S1x160000_1_0) main_arg1
  let main_v3 : IVec S160000 32 := shapeCast S160000 main_v2 shapeCasts_S1x160000_S160000
  let main_v4 : FVec F S10000x1 .f32 := (fun l r => Host.dotGeneral dot_S10000x256_S256x1_S10000x1_1_0_0_1_n_n none l r) main_arg0 main_arg3
  let main_v5 : FVec F S1x1 .f32 := broadcastInDim S1x1 ![1] bcast_S1_S1x1_1 main_arg4
  let main_v6 : FVec F S10000x1 .f32 := broadcastInDim S10000x1 ![0, 1] bcast_S1x1_S10000x1_0_1 main_v5
  let main_v7 : FVec F S10000x1 .f32 := addf main_v4 main_v6
  let main_v8 : FVec F S10000x1 .f32 := (fun l r => Host.dotGeneral dot_S10000x256_S256x1_S10000x1_1_0_0_1_n_n none l r) main_arg0 main_arg5
  let main_v9 : FVec F S1x1 .f32 := broadcastInDim S1x1 ![1] bcast_S1_S1x1_1 main_arg6
  let main_v10 : FVec F S10000x1 .f32 := broadcastInDim S10000x1 ![0, 1] bcast_S1x1_S10000x1_0_1 main_v9
  let main_v11 : FVec F S10000x1 .f32 := addf main_v8 main_v10
  let main_c : IVec S_ 32 := constantI S_ 32 0#32
  let main_v12 : IVec S10000 32 := broadcastInDim S10000 ![] bcast_S_S10000 main_c
  let main_c_0 : IVec S_ 32 := constantI S_ 32 0#32
  let main_v13 : IVec S160000 32 := fn_clip (F := F) main_v3 main_c_0
  let main_c_1 : IVec S_ 32 := constantI S_ 32 0#32
  let main_v14 : IVec S160000 32 := broadcastInDim S160000 ![] bcast_S_S160000 main_c_1
  let main_v15 : IVec S160000 1 := cmpi .slt main_v13 main_v14
  let main_c_2 : IVec S_ 32 := constantI S_ 32 10000#32
  let main_v16 : IVec S160000 32 := broadcastInDim S160000 ![] bcast_S_S160000 main_c_2
  let main_v17 : IVec S160000 32 := addi main_v13 main_v16
  let main_v18 : IVec S160000 32 := select main_v15 main_v17 main_v13
  let main_v19 : IVec S160000x1 32 := broadcastInDim S160000x1 ![0] bcast_S160000_S160000x1_0 main_v18
  fn_part1 (F := F) main_arg2 main_v1 main_v3 main_v7 main_v11 main_v12 main_v19
-- ==== Kernel.lean ====
abbrev S10000x256 : Shape := ⟨2, ![10000, 256]⟩
abbrev S2x160000 : Shape := ⟨2, ![2, 160000]⟩
abbrev S10000 : Shape := ⟨1, ![10000]⟩
abbrev S256x1 : Shape := ⟨2, ![256, 1]⟩
abbrev S1 : Shape := ⟨1, ![1]⟩
abbrev S256x256 : Shape := ⟨2, ![256, 256]⟩
abbrev S256 : Shape := ⟨1, ![256]⟩
abbrev S100 : Shape := ⟨1, ![100]⟩
abbrev S1x160000 : Shape := ⟨2, ![1, 160000]⟩
abbrev S160000 : Shape := ⟨1, ![160000]⟩
abbrev S10000x1 : Shape := ⟨2, ![10000, 1]⟩
abbrev S1x1 : Shape := ⟨2, ![1, 1]⟩
abbrev S_ : Shape := ⟨0, ![]⟩
abbrev S160000x1 : Shape := ⟨2, ![160000, 1]⟩
abbrev S64 : Shape := ⟨1, ![64]⟩
abbrev S10752x256 : Shape := ⟨2, ![10752, 256]⟩
abbrev S10752x1 : Shape := ⟨2, ![10752, 1]⟩
abbrev S1x128 : Shape := ⟨2, ![1, 128]⟩
abbrev S2 : Shape := ⟨1, ![2]⟩
abbrev S1x256 : Shape := ⟨2, ![1, 256]⟩
abbrev S64x1x256 : Shape := ⟨3, ![64, 1, 256]⟩
abbrev S1x1x256 : Shape := ⟨3, ![1, 1, 256]⟩
abbrev S520x256 : Shape := ⟨2, ![520, 256]⟩
abbrev S520x1 : Shape := ⟨2, ![520, 1]⟩
abbrev S520x520 : Shape := ⟨2, ![520, 520]⟩
abbrev S1x520 : Shape := ⟨2, ![1, 520]⟩
abbrev S520 : Shape := ⟨1, ![520]⟩
abbrev S128x1 : Shape := ⟨2, ![128, 1]⟩
abbrev S128x520 : Shape := ⟨2, ![128, 520]⟩
abbrev S128x256 : Shape := ⟨2, ![128, 256]⟩
abbrev S128x64 : Shape := ⟨2, ![128, 64]⟩
abbrev S520x64 : Shape := ⟨2, ![520, 64]⟩
abbrev S128 : Shape := ⟨1, ![128]⟩
abbrev S64x256 : Shape := ⟨2, ![64, 256]⟩

abbrev nBuf : Space → Nat
  | .hbm => 145
  | .vmem => 14
  | .smem => 2
  | _ => 0

abbrev hbmTy0_0 (i : Nat) : BufTy := match i % 128 with
  | 0 => ⟨S10000x256, .f32⟩
  | 1 => ⟨S2x160000, .i32⟩
  | 2 => ⟨S10000, .i32⟩
  | 3 => ⟨S256x1, .f32⟩
  | 4 => ⟨S1, .f32⟩
  | 5 => ⟨S256x1, .f32⟩
  | 6 => ⟨S1, .f32⟩
  | 7 => ⟨S256x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256x256, .f32⟩
  | 14 => ⟨S256, .f32⟩
  | 15 => ⟨S100, .f32⟩
  | 16 => ⟨S1, .f32⟩
  | 17 => ⟨S1x160000, .i32⟩
  | 18 => ⟨S160000, .i32⟩
  | 19 => ⟨S1x160000, .i32⟩
  | 20 => ⟨S160000, .i32⟩
  | 21 => ⟨S10000x1, .f32⟩
  | 22 => ⟨S1x1, .f32⟩
  | 23 => ⟨S10000x1, .f32⟩
  | 24 => ⟨S10000x1, .f32⟩
  | 25 => ⟨S10000x1, .f32⟩
  | 26 => ⟨S1x1, .f32⟩
  | 27 => ⟨S10000x1, .f32⟩
  | 28 => ⟨S10000x1, .f32⟩
  | 29 => ⟨S_, .i32⟩
  | 30 => ⟨S10000, .i32⟩
  | 31 => ⟨S_, .i32⟩
  | 32 => ⟨S_, .i32⟩
  | 33 => ⟨S160000, .i32⟩
  | 34 => ⟨S160000, .i32⟩
  | 35 => ⟨S_, .i32⟩
  | 36 => ⟨S160000, .i32⟩
  | 37 => ⟨S160000, .i1⟩
  | 38 => ⟨S_, .i32⟩
  | 39 => ⟨S160000, .i32⟩
  | 40 => ⟨S160000, .i32⟩
  | 41 => ⟨S160000, .i32⟩
  | 42 => ⟨S160000x1, .i32⟩
  | 43 => ⟨S_, .i32⟩
  | 44 => ⟨S160000, .i32⟩
  | 45 => ⟨S10000, .i32⟩
  | 46 => ⟨S10000, .f32⟩
  | 47 => ⟨S_, .f32⟩
  | 48 => ⟨S10000, .f32⟩
  | 49 => ⟨S10000, .f32⟩
  | 50 => ⟨S_, .i32⟩
  | 51 => ⟨S160000, .i32⟩
  | 52 => ⟨S160000, .i1⟩
  | 53 => ⟨S_, .i32⟩
  | 54 => ⟨S160000, .i32⟩
  | 55 => ⟨S160000, .i32⟩
  | 56 => ⟨S160000, .i32⟩
  | 57 => ⟨S160000x1, .i32⟩
  | 58 => ⟨S160000, .f32⟩
  | 59 => ⟨S_, .i32⟩
  | 60 => ⟨S160000, .i32⟩
  | 61 => ⟨S160000, .i1⟩
  | 62 => ⟨S_, .i32⟩
  | 63 => ⟨S160000, .i32⟩
  | 64 => ⟨S160000, .i32⟩
  | 65 => ⟨S160000, .i32⟩
  | 66 => ⟨S160000x1, .i32⟩
  | 67 => ⟨S160000, .f32⟩
  | 68 => ⟨S160000, .f32⟩
  | 69 => ⟨S160000, .f32⟩
  | 70 => ⟨S_, .f32⟩
  | 71 => ⟨S160000, .f32⟩
  | 72 => ⟨S160000, .f32⟩
  | 73 => ⟨S_, .f32⟩
  | 74 => ⟨S10000x1, .f32⟩
  | 75 => ⟨S160000x1, .f32⟩
  | 76 => ⟨S_, .i32⟩
  | 77 => ⟨S160000, .i32⟩
  | 78 => ⟨S160000, .i1⟩
  | 79 => ⟨S_, .i32⟩
  | 80 => ⟨S160000, .i32⟩
  | 81 => ⟨S160000, .i32⟩
  | 82 => ⟨S160000, .i32⟩
  | 83 => ⟨S160000x1, .i32⟩
  | 84 => ⟨S160000x1, .f32⟩
  | 85 => ⟨S160000x1, .f32⟩
  | 86 => ⟨S_, .i32⟩
  | 87 => ⟨S160000, .i32⟩
  | 88 => ⟨S160000, .i1⟩
  | 89 => ⟨S_, .i32⟩
  | 90 => ⟨S160000, .i32⟩
  | 91 => ⟨S160000, .i32⟩
  | 92 => ⟨S160000, .i32⟩
  | 93 => ⟨S160000x1, .i32⟩
  | 94 => ⟨S10000x1, .f32⟩
  | 95 => ⟨S10000x1, .f32⟩
  | 96 => ⟨S10000x1, .f32⟩
  | 97 => ⟨S10000x1, .f32⟩
  | 98 => ⟨S_, .f32⟩
  | 99 => ⟨S10000x1, .f32⟩
  | 100 => ⟨S10000x1, .f32⟩
  | 101 => ⟨S_, .f32⟩
  | 102 => ⟨S10000x1, .f32⟩
  | 103 => ⟨S10000x1, .f32⟩
  | 104 => ⟨S10000x1, .f32⟩
  | 105 => ⟨S_, .i32⟩
  | 106 => ⟨S64, .i32⟩
  | 107 => ⟨S_, .i32⟩
  | 108 => ⟨S10000, .i32⟩
  | 109 => ⟨S10000, .i1⟩
  | 110 => ⟨S_, .i32⟩
  | 111 => ⟨S10000, .i32⟩
  | 112 => ⟨S10000, .i32⟩
  | 113 => ⟨S10000, .i32⟩
  | 114 => ⟨S10000x1, .i32⟩
  | 115 => ⟨S_, .i32⟩
  | 116 => ⟨S10000, .i32⟩
  | 117 => ⟨S_, .i32⟩
  | 118 => ⟨S_, .i32⟩
  | 119 => ⟨S64, .i32⟩
  | 120 => ⟨S_, .f32⟩
  | 121 => ⟨S10752x256, .f32⟩
  | 122 => ⟨S_, .i32⟩
  | 123 => ⟨S1, .i32⟩
  | 124 => ⟨S10752x256, .f32⟩
  | 125 => ⟨S_, .f32⟩
  | 126 => ⟨S10752x1, .f32⟩
  | 127 => ⟨S_, .i32⟩
  | _ => ⟨S10000x256, .f32⟩

abbrev hbmTy0_1 (i : Nat) : BufTy := match i % 128 with
  | 0 => ⟨S1, .i32⟩
  | 1 => ⟨S10752x1, .f32⟩
  | 2 => ⟨S_, .f32⟩
  | 3 => ⟨S1x128, .f32⟩
  | 4 => ⟨S_, .i32⟩
  | 5 => ⟨S1, .i32⟩
  | 6 => ⟨S_, .i32⟩
  | 7 => ⟨S1, .i32⟩
  | 8 => ⟨S2, .i32⟩
  | 9 => ⟨S1x128, .f32⟩
  | 10 => ⟨S1x256, .f32⟩
  | 11 => ⟨S1x256, .f32⟩
  | 12 => ⟨S1x256, .f32⟩
  | 13 => ⟨S1x256, .f32⟩
  | 14 => ⟨S1x256, .f32⟩
  | 15 => ⟨S64x1x256, .f32⟩
  | 16 => ⟨S64x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | .local _ .vmem, ⟨0, _⟩ => ⟨S10752x256, .f32⟩
  | .local _ .vmem, ⟨1, _⟩ => ⟨S10752x1, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S1x128, .f32⟩
  | .local _ .vmem, ⟨11, _⟩ => ⟨S1x256, .f32⟩
  | .local _ .vmem, ⟨12, _⟩ => ⟨S1x1x256, .f32⟩
  | .local _ .vmem, ⟨13, _⟩ => ⟨S1x1x256, .f32⟩
  | .local _ .smem, ⟨0, _⟩ => ⟨S64, .i32⟩
  | .local _ .smem, ⟨1, _⟩ => ⟨S64, .i32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_c_0 : Ref sig .tc := ⟨.hbm, 31, rfl⟩
abbrev main_call0_v0 : Ref sig .tc := ⟨.hbm, 32, rfl⟩
abbrev main_call0_v1 : Ref sig .tc := ⟨.hbm, 33, rfl⟩
abbrev main_v13 : Ref sig .tc := ⟨.hbm, 34, rfl⟩
abbrev main_c_1 : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst : Ref sig .tc := ⟨.hbm, 47, rfl⟩
abbrev main_v23 : Ref sig .tc := ⟨.hbm, 48, rfl⟩
abbrev main_v24 : Ref sig .tc := ⟨.hbm, 49, rfl⟩
abbrev main_c_4 : Ref sig .tc := ⟨.hbm, 50, rfl⟩
abbrev main_v25 : Ref sig .tc := ⟨.hbm, 51, rfl⟩
abbrev main_v26 : Ref sig .tc := ⟨.hbm, 52, rfl⟩
abbrev main_c_5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_6 : Ref sig .tc := ⟨.hbm, 59, rfl⟩
abbrev main_v32 : Ref sig .tc := ⟨.hbm, 60, rfl⟩
abbrev main_v33 : Ref sig .tc := ⟨.hbm, 61, rfl⟩
abbrev main_c_7 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_c_10 : Ref sig .tc := ⟨.hbm, 76, rfl⟩
abbrev main_v45 : Ref sig .tc := ⟨.hbm, 77, rfl⟩
abbrev main_v46 : Ref sig .tc := ⟨.hbm, 78, rfl⟩
abbrev main_c_11 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_12 : Ref sig .tc := ⟨.hbm, 86, rfl⟩
abbrev main_v53 : Ref sig .tc := ⟨.hbm, 87, rfl⟩
abbrev main_v54 : Ref sig .tc := ⟨.hbm, 88, rfl⟩
abbrev main_c_13 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_14 : Ref sig .tc := ⟨.hbm, 98, rfl⟩
abbrev main_v63 : Ref sig .tc := ⟨.hbm, 99, rfl⟩
abbrev main_v64 : Ref sig .tc := ⟨.hbm, 100, rfl⟩
abbrev main_cst_15 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_c_16 : Ref sig .tc := ⟨.hbm, 105, rfl⟩
abbrev main_v68 : Ref sig .tc := ⟨.hbm, 106, rfl⟩
abbrev main_c_17 : Ref sig .tc := ⟨.hbm, 107, rfl⟩
abbrev main_v69 : Ref sig .tc := ⟨.hbm, 108, rfl⟩
abbrev main_v70 : Ref sig .tc := ⟨.hbm, 109, rfl⟩
abbrev main_c_18 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_c_19 : Ref sig .tc := ⟨.hbm, 115, rfl⟩
abbrev main_v75 : Ref sig .tc := ⟨.hbm, 116, rfl⟩
abbrev main_call1_call0_c : Ref sig .tc := ⟨.hbm, 117, rfl⟩
abbrev main_call1_call0_v0 : Ref sig .tc := ⟨.hbm, 118, rfl⟩
abbrev main_v77 : Ref sig .tc := ⟨.hbm, 119, rfl⟩
abbrev main_cst_20 : Ref sig .tc := ⟨.hbm, 120, rfl⟩
abbrev main_v79 : Ref sig .tc := ⟨.hbm, 121, rfl⟩
abbrev main_c_21 : Ref sig .tc := ⟨.hbm, 122, rfl⟩
abbrev main_v80 : Ref sig .tc := ⟨.hbm, 123, rfl⟩
abbrev main_v81 : Ref sig .tc := ⟨.hbm, 124, rfl⟩
abbrev main_cst_22 : Ref sig .tc := ⟨.hbm, 125, rfl⟩
abbrev main_v82 : Ref sig .tc := ⟨.hbm, 126, rfl⟩
abbrev main_c_23 : Ref sig .tc := ⟨.hbm, 127, rfl⟩
abbrev main_v83 : Ref sig .tc := ⟨.hbm, 128, rfl⟩
abbrev main_v84 : Ref sig .tc := ⟨.hbm, 129, rfl⟩
abbrev main_cst_24 : Ref sig .tc := ⟨.hbm, 130, rfl⟩
abbrev main_v85 : Ref sig .tc := ⟨.hbm, 131, rfl⟩
abbrev main_c_25 : Ref sig .tc := ⟨.hbm, 132, rfl⟩
abbrev main_v86 : Ref sig .tc := ⟨.hbm, 133, rfl⟩
abbrev main_c_26 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v76 : Ref sig .tc := ⟨.smem, 0, rfl⟩
abbrev main_v78 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg12_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem12_1 : DmaSem sig := 13

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_v76.idx, main_v78.idx], fun | 0 => main_v76.names | 1 => main_v78.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (v1 : BitVec 32) : BitVec 32 :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c8_i32 : BitVec 32 := 8#32
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v1 c8_i32
  let c0_i32_3 : BitVec 32 := 0#32
  let v17 : BitVec 1 := Scalar.cmpi .ne v16 c0_i32_3
  let v18 : BitVec 1 := Scalar.andi v15 v17
  let v4 : BitVec 32 := Scalar.divsi v1 c8_i32
  let c1_i32 : BitVec 32 := 1#32
  let v19 : BitVec 32 := Scalar.subi v4 c1_i32
  let v20 : BitVec 32 := Scalar.select v18 v19 v4
  let c8_i32_4 : BitVec 32 := 8#32
  let v21 : BitVec 32 := Scalar.muli v20 c8_i32_4
  v21

def k0_off2 (v1 : BitVec 32) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c8_i32 : BitVec 32 := 8#32
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v1 c8_i32
  let c0_i32_3 : BitVec 32 := 0#32
  let v17 : BitVec 1 := Scalar.cmpi .ne v16 c0_i32_3
  let v18 : BitVec 1 := Scalar.andi v15 v17
  let v4 : BitVec 32 := Scalar.divsi v1 c8_i32
  let c1_i32 : BitVec 32 := 1#32
  let v19 : BitVec 32 := Scalar.subi v4 c1_i32
  let v20 : BitVec 32 := Scalar.select v18 v19 v4
  let c8_i32_4 : BitVec 32 := 8#32
  let v21 : BitVec 32 := Scalar.muli v20 c8_i32_4
  let v22 : BitVec 32 := v21
  let v24 : Index := Scalar.indexCast v22
  let c0 : Index := 0#32
  ![v24.toNat, 0]
def k0_off3 (v1 : BitVec 32) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c8_i32 : BitVec 32 := 8#32
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v1 c8_i32
  let c0_i32_3 : BitVec 32 := 0#32
  let v17 : BitVec 1 := Scalar.cmpi .ne v16 c0_i32_3
  let v18 : BitVec 1 := Scalar.andi v15 v17
  let v4 : BitVec 32 := Scalar.divsi v1 c8_i32
  let c1_i32 : BitVec 32 := 1#32
  let v19 : BitVec 32 := Scalar.subi v4 c1_i32
  let v20 : BitVec 32 := Scalar.select v18 v19 v4
  let c8_i32_4 : BitVec 32 := 8#32
  let v21 : BitVec 32 := Scalar.muli v20 c8_i32_4
  let v22 : BitVec 32 := v21
  let v36 : Index := Scalar.indexCast v22
  let c0_5 : Index := 0#32
  ![v36.toNat, 0]

def k0_chk1 (v1 : BitVec 32) : Prop :=
  (8 ∣ (k0_mult1 v1).toNat) ∧
  (∀ a, (k0_off2 v1) a + S520x256.size a ≤ S10752x256.size a) ∧
  (∀ a, (k0_off3 v1) a + S520x1.size a ≤ S10752x1.size a)
theorem k0_mult1_dvd : ∀ (v1 : BitVec 32) (k0_hw1 : k0_chk1 v1), 8 ∣ (k0_mult1 v1).toNat := fun v1 k0_hw1 => k0_hw1.1
theorem k0_off2_inb : ∀ (v1 : BitVec 32) (k0_hw1 : k0_chk1 v1), ∀ a, (k0_off2 v1) a + S520x256.size a ≤ S10752x256.size a := fun v1 k0_hw1 => k0_hw1.2.1
theorem k0_off3_inb : ∀ (v1 : BitVec 32) (k0_hw1 : k0_chk1 v1), ∀ a, (k0_off3 v1) a + S520x1.size a ≤ S10752x1.size a := fun v1 k0_hw1 => k0_hw1.2.2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S10752x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10752x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S10000x256 : Shape := ⟨2, ![10000, 256]⟩
abbrev S2x160000 : Shape := ⟨2, ![2, 160000]⟩
abbrev S10000 : Shape := ⟨1, ![10000]⟩
abbrev S256x1 : Shape := ⟨2, ![256, 1]⟩
abbrev S1 : Shape := ⟨1, ![1]⟩
abbrev S256x256 : Shape := ⟨2, ![256, 256]⟩
abbrev S256 : Shape := ⟨1, ![256]⟩
abbrev S100 : Shape := ⟨1, ![100]⟩
abbrev S1x160000 : Shape := ⟨2, ![1, 160000]⟩
abbrev S160000 : Shape := ⟨1, ![160000]⟩
abbrev S10000x1 : Shape := ⟨2, ![10000, 1]⟩
abbrev S1x1 : Shape := ⟨2, ![1, 1]⟩
abbrev S_ : Shape := ⟨0, ![]⟩
abbrev S160000x1 : Shape := ⟨2, ![160000, 1]⟩
abbrev S64 : Shape := ⟨1, ![64]⟩
abbrev S63 : Shape := ⟨1, ![63]⟩
abbrev S64x512x256 : Shape := ⟨3, ![64, 512, 256]⟩
abbrev S10000x2 : Shape := ⟨2, ![10000, 2]⟩
abbrev S64x512 : Shape := ⟨2, ![64, 512]⟩
abbrev S64x100 : Shape := ⟨2, ![64, 100]⟩
abbrev S64x100x1 : Shape := ⟨3, ![64, 100, 1]⟩
abbrev S1x1x1 : Shape := ⟨3, ![1, 1, 1]⟩
abbrev S64x100x256 : Shape := ⟨3, ![64, 100, 256]⟩
abbrev S1x1x256 : Shape := ⟨3, ![1, 1, 256]⟩
abbrev S1x256 : Shape := ⟨2, ![1, 256]⟩
abbrev S64x100x4x64 : Shape := ⟨4, ![64, 100, 4, 64]⟩
abbrev S64x4x100x64 : Shape := ⟨4, ![64, 4, 100, 64]⟩
abbrev S64x512x4x64 : Shape := ⟨4, ![64, 512, 4, 64]⟩
abbrev S64x4x512x64 : Shape := ⟨4, ![64, 4, 512, 64]⟩
abbrev S64x4x100x512 : Shape := ⟨4, ![64, 4, 100, 512]⟩
abbrev S64x1x1x512 : Shape := ⟨4, ![64, 1, 1, 512]⟩
abbrev S64x4x100 : Shape := ⟨3, ![64, 4, 100]⟩
abbrev S64x4x100x1 : Shape := ⟨4, ![64, 4, 100, 1]⟩
abbrev S64x256 : Shape := ⟨2, ![64, 256]⟩

abbrev nBuf : Space → Nat
  | .hbm => 339
  | .vmem => 0
  | .smem => 0
  | _ => 0

abbrev hbmTy0_0 (i : Nat) : BufTy := match i % 128 with
  | 0 => ⟨S10000x256, .f32⟩
  | 1 => ⟨S2x160000, .i32⟩
  | 2 => ⟨S10000, .i32⟩
  | 3 => ⟨S256x1, .f32⟩
  | 4 => ⟨S1, .f32⟩
  | 5 => ⟨S256x1, .f32⟩
  | 6 => ⟨S1, .f32⟩
  | 7 => ⟨S256x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256x256, .f32⟩
  | 14 => ⟨S256, .f32⟩
  | 15 => ⟨S100, .f32⟩
  | 16 => ⟨S1, .f32⟩
  | 17 => ⟨S1x160000, .i32⟩
  | 18 => ⟨S160000, .i32⟩
  | 19 => ⟨S1x160000, .i32⟩
  | 20 => ⟨S160000, .i32⟩
  | 21 => ⟨S10000x1, .f32⟩
  | 22 => ⟨S1x1, .f32⟩
  | 23 => ⟨S10000x1, .f32⟩
  | 24 => ⟨S10000x1, .f32⟩
  | 25 => ⟨S10000x1, .f32⟩
  | 26 => ⟨S1x1, .f32⟩
  | 27 => ⟨S10000x1, .f32⟩
  | 28 => ⟨S10000x1, .f32⟩
  | 29 => ⟨S_, .i32⟩
  | 30 => ⟨S10000, .i32⟩
  | 31 => ⟨S_, .i32⟩
  | 32 => ⟨S_, .i32⟩
  | 33 => ⟨S160000, .i32⟩
  | 34 => ⟨S160000, .i32⟩
  | 35 => ⟨S_, .i32⟩
  | 36 => ⟨S160000, .i32⟩
  | 37 => ⟨S160000, .i1⟩
  | 38 => ⟨S_, .i32⟩
  | 39 => ⟨S160000, .i32⟩
  | 40 => ⟨S160000, .i32⟩
  | 41 => ⟨S160000, .i32⟩
  | 42 => ⟨S160000x1, .i32⟩
  | 43 => ⟨S_, .i32⟩
  | 44 => ⟨S160000, .i32⟩
  | 45 => ⟨S10000, .i32⟩
  | 46 => ⟨S10000, .f32⟩
  | 47 => ⟨S_, .f32⟩
  | 48 => ⟨S10000, .f32⟩
  | 49 => ⟨S10000, .f32⟩
  | 50 => ⟨S_, .i32⟩
  | 51 => ⟨S160000, .i32⟩
  | 52 => ⟨S160000, .i1⟩
  | 53 => ⟨S_, .i32⟩
  | 54 => ⟨S160000, .i32⟩
  | 55 => ⟨S160000, .i32⟩
  | 56 => ⟨S160000, .i32⟩
  | 57 => ⟨S160000x1, .i32⟩
  | 58 => ⟨S160000, .f32⟩
  | 59 => ⟨S_, .i32⟩
  | 60 => ⟨S160000, .i32⟩
  | 61 => ⟨S160000, .i1⟩
  | 62 => ⟨S_, .i32⟩
  | 63 => ⟨S160000, .i32⟩
  | 64 => ⟨S160000, .i32⟩
  | 65 => ⟨S160000, .i32⟩
  | 66 => ⟨S160000x1, .i32⟩
  | 67 => ⟨S160000, .f32⟩
  | 68 => ⟨S160000, .f32⟩
  | 69 => ⟨S160000, .f32⟩
  | 70 => ⟨S_, .f32⟩
  | 71 => ⟨S160000, .f32⟩
  | 72 => ⟨S160000, .f32⟩
  | 73 => ⟨S_, .f32⟩
  | 74 => ⟨S10000x1, .f32⟩
  | 75 => ⟨S160000x1, .f32⟩
  | 76 => ⟨S_, .i32⟩
  | 77 => ⟨S160000, .i32⟩
  | 78 => ⟨S160000, .i1⟩
  | 79 => ⟨S_, .i32⟩
  | 80 => ⟨S160000, .i32⟩
  | 81 => ⟨S160000, .i32⟩
  | 82 => ⟨S160000, .i32⟩
  | 83 => ⟨S160000x1, .i32⟩
  | 84 => ⟨S160000x1, .f32⟩
  | 85 => ⟨S160000x1, .f32⟩
  | 86 => ⟨S_, .i32⟩
  | 87 => ⟨S160000, .i32⟩
  | 88 => ⟨S160000, .i1⟩
  | 89 => ⟨S_, .i32⟩
  | 90 => ⟨S160000, .i32⟩
  | 91 => ⟨S160000, .i32⟩
  | 92 => ⟨S160000, .i32⟩
  | 93 => ⟨S160000x1, .i32⟩
  | 94 => ⟨S10000x1, .f32⟩
  | 95 => ⟨S10000x1, .f32⟩
  | 96 => ⟨S10000x1, .f32⟩
  | 97 => ⟨S10000x1, .f32⟩
  | 98 => ⟨S_, .f32⟩
  | 99 => ⟨S10000x1, .f32⟩
  | 100 => ⟨S10000x1, .f32⟩
  | 101 => ⟨S_, .f32⟩
  | 102 => ⟨S10000x1, .f32⟩
  | 103 => ⟨S10000x1, .f32⟩
  | 104 => ⟨S10000x1, .f32⟩
  | 105 => ⟨S10000, .f32⟩
  | 106 => ⟨S_, .i32⟩
  | 107 => ⟨S64, .i32⟩
  | 108 => ⟨S_, .i32⟩
  | 109 => ⟨S_, .i32⟩
  | 110 => ⟨S10000, .i32⟩
  | 111 => ⟨S10000, .i32⟩
  | 112 => ⟨S_, .i32⟩
  | 113 => ⟨S10000, .i32⟩
  | 114 => ⟨S10000, .i1⟩
  | 115 => ⟨S_, .i32⟩
  | 116 => ⟨S10000, .i32⟩
  | 117 => ⟨S10000, .i32⟩
  | 118 => ⟨S10000, .i32⟩
  | 119 => ⟨S10000x1, .i32⟩
  | 120 => ⟨S_, .i32⟩
  | 121 => ⟨S10000, .i32⟩
  | 122 => ⟨S64, .i32⟩
  | 123 => ⟨S_, .i32⟩
  | 124 => ⟨S1, .i32⟩
  | 125 => ⟨S_, .i32⟩
  | 126 => ⟨S_, .i32⟩
  | 127 => ⟨S64, .i32⟩
  | _ => ⟨S10000x256, .f32⟩

abbrev hbmTy0_1 (i : Nat) : BufTy := match i % 128 with
  | 0 => ⟨S63, .i32⟩
  | 1 => ⟨S64, .i32⟩
  | 2 => ⟨S10000, .i32⟩
  | 3 => ⟨S_, .i32⟩
  | 4 => ⟨S10000, .i32⟩
  | 5 => ⟨S10000, .i1⟩
  | 6 => ⟨S_, .i32⟩
  | 7 => ⟨S10000, .i32⟩
  | 8 => ⟨S10000, .i32⟩
  | 9 => ⟨S10000, .i32⟩
  | 10 => ⟨S10000x1, .i32⟩
  | 11 => ⟨S10000, .i32⟩
  | 12 => ⟨S10000, .i32⟩
  | 13 => ⟨S_, .f32⟩
  | 14 => ⟨S64x512x256, .f32⟩
  | 15 => ⟨S_, .i32⟩
  | 16 => ⟨S10000, .i32⟩
  | 17 => ⟨S10000, .i1⟩
  | 18 => ⟨S_, .i32⟩
  | 19 => ⟨S10000, .i32⟩
  | 20 => ⟨S10000, .i32⟩
  | 21 => ⟨S10000, .i32⟩
  | 22 => ⟨S_, .i32⟩
  | 23 => ⟨S10000, .i32⟩
  | 24 => ⟨S10000, .i1⟩
  | 25 => ⟨S_, .i32⟩
  | 26 => ⟨S10000, .i32⟩
  | 27 => ⟨S10000, .i32⟩
  | 28 => ⟨S10000, .i32⟩
  | 29 => ⟨S10000x1, .i32⟩
  | 30 => ⟨S10000x1, .i32⟩
  | 31 => ⟨S10000x2, .i32⟩
  | 32 => ⟨S64x512x256, .f32⟩
  | 33 => ⟨S_, .i1⟩
  | 34 => ⟨S64x512, .i1⟩
  | 35 => ⟨S_, .i32⟩
  | 36 => ⟨S10000, .i32⟩
  | 37 => ⟨S10000, .i1⟩
  | 38 => ⟨S_, .i32⟩
  | 39 => ⟨S10000, .i32⟩
  | 40 => ⟨S10000, .i32⟩
  | 41 => ⟨S10000, .i32⟩
  | 42 => ⟨S_, .i32⟩
  | 43 => ⟨S10000, .i32⟩
  | 44 => ⟨S10000, .i1⟩
  | 45 => ⟨S_, .i32⟩
  | 46 => ⟨S10000, .i32⟩
  | 47 => ⟨S10000, .i32⟩
  | 48 => ⟨S10000, .i32⟩
  | 49 => ⟨S10000x1, .i32⟩
  | 50 => ⟨S10000x1, .i32⟩
  | 51 => ⟨S10000x2, .i32⟩
  | 52 => ⟨S_, .i1⟩
  | 53 => ⟨S10000, .i1⟩
  | 54 => ⟨S64x512, .i1⟩
  | 55 => ⟨S_, .f32⟩
  | 56 => ⟨S64x512, .f32⟩
  | 57 => ⟨S_, .i32⟩
  | 58 => ⟨S10000, .i32⟩
  | 59 => ⟨S10000, .i1⟩
  | 60 => ⟨S_, .i32⟩
  | 61 => ⟨S10000, .i32⟩
  | 62 => ⟨S10000, .i32⟩
  | 63 => ⟨S10000, .i32⟩
  | 64 => ⟨S_, .i32⟩
  | 65 => ⟨S10000, .i32⟩
  | 66 => ⟨S10000, .i1⟩
  | 67 => ⟨S_, .i32⟩
  | 68 => ⟨S10000, .i32⟩
  | 69 => ⟨S10000, .i32⟩
  | 70 => ⟨S10000, .i32⟩
  | 71 => ⟨S10000x1, .i32⟩
  | 72 => ⟨S10000x1, .i32⟩
  | 73 => ⟨S10000x2, .i32⟩
  | 74 => ⟨S64x512, .f32⟩
  | 75 => ⟨S64x100, .f32⟩
  | 76 => ⟨S64x100, .i32⟩
  | 77 => ⟨S_, .f32⟩
  | 78 => ⟨S64x100, .f32⟩
  | 79 => ⟨S64x100, .i1⟩
  | 80 => ⟨S64x100x1, .i32⟩
  | 81 => ⟨S_, .i32⟩
  | 82 => ⟨S64x100x1, .i32⟩
  | 83 => ⟨S64x100x1, .i1⟩
  | 84 => ⟨S_, .i32⟩
  | 85 => ⟨S64x100x1, .i32⟩
  | 86 => ⟨S64x100x1, .i32⟩
  | 87 => ⟨S64x100x1, .i32⟩
  | 88 => ⟨S1, .i32⟩
  | 89 => ⟨S_, .i32⟩
  | 90 => ⟨S64x100x1, .i32⟩
  | 91 => ⟨S64x100x1, .i1⟩
  | 92 => ⟨S1x1x1, .i32⟩
  | 93 => ⟨S64x100x1, .i32⟩
  | 94 => ⟨S64x100x1, .i1⟩
  | 95 => ⟨S64x100x1, .i1⟩
  | 96 => ⟨S_, .i1⟩
  | 97 => ⟨S64x100, .i1⟩
  | 98 => ⟨S64x100x256, .f32⟩
  | 99 => ⟨S64x100x256, .i1⟩
  | 100 => ⟨S_, .f32⟩
  | 101 => ⟨S64x100x256, .f32⟩
  | 102 => ⟨S64x100x256, .f32⟩
  | 103 => ⟨S64x100, .f32⟩
  | 104 => ⟨S64x100x1, .f32⟩
  | 105 => ⟨S64x100x256, .f32⟩
  | 106 => ⟨S64x100x256, .f32⟩
  | 107 => ⟨S64x100x1, .i1⟩
  | 108 => ⟨S64x100x1, .f32⟩
  | 109 => ⟨S64x100x256, .f32⟩
  | 110 => ⟨S64x100x256, .f32⟩
  | 111 => ⟨S64x100x256, .f32⟩
  | 112 => ⟨S1x1x256, .f32⟩
  | 113 => ⟨S64x100x256, .f32⟩
  | 114 => ⟨S64x100x256, .f32⟩
  | 115 => ⟨S_, .f32⟩
  | 116 => ⟨S64x512x256, .f32⟩
  | 117 => ⟨S10000x256, .f32⟩
  | 118 => ⟨S1x256, .f32⟩
  | 119 => ⟨S10000x256, .f32⟩
  | 120 => ⟨S10000x256, .f32⟩
  | 121 => ⟨S_, .i32⟩
  | 122 => ⟨S10000, .i32⟩
  | 123 => ⟨S10000, .i1⟩
  | 124 => ⟨S_, .i32⟩
  | 125 => ⟨S10000, .i32⟩
  | 126 => ⟨S10000, .i32⟩
  | 127 => ⟨S10000, .i32⟩
  | _ => ⟨S10000x256, .f32⟩

abbrev hbmTy0_2 (i : Nat) : BufTy := match i % 128 with
  | 0 => ⟨S_, .i32⟩
  | 1 => ⟨S10000, .i32⟩
  | 2 => ⟨S10000, .i1⟩
  | 3 => ⟨S_, .i32⟩
  | 4 => ⟨S10000, .i32⟩
  | 5 => ⟨S10000, .i32⟩
  | 6 => ⟨S10000, .i32⟩
  | 7 => ⟨S10000x1, .i32⟩
  | 8 => ⟨S10000x1, .i32⟩
  | 9 => ⟨S10000x2, .i32⟩
  | 10 => ⟨S64x512x256, .f32⟩
  | 11 => ⟨S_, .f32⟩
  | 12 => ⟨S64x512x256, .f32⟩
  | 13 => ⟨S10000x256, .f32⟩
  | 14 => ⟨S1x256, .f32⟩
  | 15 => ⟨S10000x256, .f32⟩
  | 16 => ⟨S10000x256, .f32⟩
  | 17 => ⟨S_, .i32⟩
  | 18 => ⟨S10000, .i32⟩
  | 19 => ⟨S10000, .i1⟩
  | 20 => ⟨S_, .i32⟩
  | 21 => ⟨S10000, .i32⟩
  | 22 => ⟨S10000, .i32⟩
  | 23 => ⟨S10000, .i32⟩
  | 24 => ⟨S_, .i32⟩
  | 25 => ⟨S10000, .i32⟩
  | 26 => ⟨S10000, .i1⟩
  | 27 => ⟨S_, .i32⟩
  | 28 => ⟨S10000, .i32⟩
  | 29 => ⟨S10000, .i32⟩
  | 30 => ⟨S10000, .i32⟩
  | 31 => ⟨S10000x1, .i32⟩
  | 32 => ⟨S10000x1, .i32⟩
  | 33 => ⟨S10000x2, .i32⟩
  | 34 => ⟨S64x512x256, .f32⟩
  | 35 => ⟨S64x100x4x64, .f32⟩
  | 36 => ⟨S64x4x100x64, .f32⟩
  | 37 => ⟨S64x512x4x64, .f32⟩
  | 38 => ⟨S64x4x512x64, .f32⟩
  | 39 => ⟨S64x512x4x64, .f32⟩
  | 40 => ⟨S64x4x512x64, .f32⟩
  | 41 => ⟨S64x4x100x512, .f32⟩
  | 42 => ⟨S_, .f32⟩
  | 43 => ⟨S_, .f32⟩
  | 44 => ⟨S_, .f32⟩
  | 45 => ⟨S64x4x100x512, .f32⟩
  | 46 => ⟨S64x4x100x512, .f32⟩
  | 47 => ⟨S64x1x1x512, .i1⟩
  | 48 => ⟨S_, .f32⟩
  | 49 => ⟨S_, .f32⟩
  | 50 => ⟨S64x4x100x512, .i1⟩
  | 51 => ⟨S64x4x100x512, .f32⟩
  | 52 => ⟨S64x4x100x512, .f32⟩
  | 53 => ⟨S_, .f32⟩
  | 54 => ⟨S64x4x100, .f32⟩
  | 55 => ⟨S_, .f32⟩
  | 56 => ⟨S64x4x100, .f32⟩
  | 57 => ⟨S64x4x100, .f32⟩
  | 58 => ⟨S64x4x100x1, .f32⟩
  | 59 => ⟨S64x4x100x512, .f32⟩
  | 60 => ⟨S64x4x100x512, .f32⟩
  | 61 => ⟨S64x4x100x512, .f32⟩
  | 62 => ⟨S_, .f32⟩
  | 63 => ⟨S64x4x100, .f32⟩
  | 64 => ⟨S64x4x100x1, .f32⟩
  | 65 => ⟨S64x4x100x512, .f32⟩
  | 66 => ⟨S64x4x100x512, .f32⟩
  | 67 => ⟨S64x4x100x64, .f32⟩
  | 68 => ⟨S64x100x4x64, .f32⟩
  | 69 => ⟨S64x100x256, .f32⟩
  | 70 => ⟨S64x100x256, .f32⟩
  | 71 => ⟨S64x100x256, .f32⟩
  | 72 => ⟨S1x1x256, .f32⟩
  | 73 => ⟨S64x100x256, .f32⟩
  | 74 => ⟨S64x100x256, .f32⟩
  | 75 => ⟨S_, .f32⟩
  | 76 => ⟨S64x100x256, .f32⟩
  | 77 => ⟨S64x100x256, .f32⟩
  | 78 => ⟨S64x100x256, .f32⟩
  | 79 => ⟨S64x256, .f32⟩
  | 80 => ⟨S1x1, .f32⟩
  | 81 => ⟨S64x256, .f32⟩
  | 82 => ⟨S64x256, .f32⟩
  | _ => ⟨S10000x256, .f32⟩

abbrev hbmTy (i : Nat) : BufTy := match i / 128 with
  | 0 => hbmTy0_0 i
  | 1 => hbmTy0_1 i
  | 2 => hbmTy0_2 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_c_0 : Ref sig .tc := ⟨.hbm, 31, rfl⟩
abbrev main_call0_v0 : Ref sig .tc := ⟨.hbm, 32, rfl⟩
abbrev main_call0_v1 : Ref sig .tc := ⟨.hbm, 33, rfl⟩
abbrev main_v13 : Ref sig .tc := ⟨.hbm, 34, rfl⟩
abbrev main_c_1 : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst : Ref sig .tc := ⟨.hbm, 47, rfl⟩
abbrev main_v23 : Ref sig .tc := ⟨.hbm, 48, rfl⟩
abbrev main_v24 : Ref sig .tc := ⟨.hbm, 49, rfl⟩
abbrev main_c_4 : Ref sig .tc := ⟨.hbm, 50, rfl⟩
abbrev main_v25 : Ref sig .tc := ⟨.hbm, 51, rfl⟩
abbrev main_v26 : Ref sig .tc := ⟨.hbm, 52, rfl⟩
abbrev main_c_5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_6 : Ref sig .tc := ⟨.hbm, 59, rfl⟩
abbrev main_v32 : Ref sig .tc := ⟨.hbm, 60, rfl⟩
abbrev main_v33 : Ref sig .tc := ⟨.hbm, 61, rfl⟩
abbrev main_c_7 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_c_10 : Ref sig .tc := ⟨.hbm, 76, rfl⟩
abbrev main_v45 : Ref sig .tc := ⟨.hbm, 77, rfl⟩
abbrev main_v46 : Ref sig .tc := ⟨.hbm, 78, rfl⟩
abbrev main_c_11 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_12 : Ref sig .tc := ⟨.hbm, 86, rfl⟩
abbrev main_v53 : Ref sig .tc := ⟨.hbm, 87, rfl⟩
abbrev main_v54 : Ref sig .tc := ⟨.hbm, 88, rfl⟩
abbrev main_c_13 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_14 : Ref sig .tc := ⟨.hbm, 98, rfl⟩
abbrev main_v63 : Ref sig .tc := ⟨.hbm, 99, rfl⟩
abbrev main_v64 : Ref sig .tc := ⟨.hbm, 100, rfl⟩
abbrev main_cst_15 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_16 : Ref sig .tc := ⟨.hbm, 106, rfl⟩
abbrev main_v69 : Ref sig .tc := ⟨.hbm, 107, rfl⟩
abbrev main_c_17 : Ref sig .tc := ⟨.hbm, 108, rfl⟩
abbrev main_call1_v0 : Ref sig .tc := ⟨.hbm, 109, rfl⟩
abbrev main_call1_v1 : Ref sig .tc := ⟨.hbm, 110, rfl⟩
abbrev main_v70 : Ref sig .tc := ⟨.hbm, 111, rfl⟩
abbrev main_c_18 : Ref sig .tc := ⟨.hbm, 112, rfl⟩
abbrev main_v71 : Ref sig .tc := ⟨.hbm, 113, rfl⟩
abbrev main_v72 : Ref sig .tc := ⟨.hbm, 114, rfl⟩
abbrev main_c_19 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_c_20 : Ref sig .tc := ⟨.hbm, 120, rfl⟩
abbrev main_v77 : Ref sig .tc := ⟨.hbm, 121, rfl⟩
abbrev main_v78 : Ref sig .tc := ⟨.hbm, 122, rfl⟩
abbrev main_c_21 : Ref sig .tc := ⟨.hbm, 123, rfl⟩
abbrev main_v79 : Ref sig .tc := ⟨.hbm, 124, rfl⟩
abbrev main_call2_call0_c : Ref sig .tc := ⟨.hbm, 125, rfl⟩
abbrev main_call2_call0_v0 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_c_22 : Ref sig .tc := ⟨.hbm, 131, rfl⟩
abbrev main_v84 : Ref sig .tc := ⟨.hbm, 132, rfl⟩
abbrev main_v85 : Ref sig .tc := ⟨.hbm, 133, rfl⟩
abbrev main_c_23 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_24 : Ref sig .tc := ⟨.hbm, 141, rfl⟩
abbrev main_v92 : Ref sig .tc := ⟨.hbm, 142, rfl⟩
abbrev main_c_25 : Ref sig .tc := ⟨.hbm, 143, rfl⟩
abbrev main_v93 : Ref sig .tc := ⟨.hbm, 144, rfl⟩
abbrev main_v94 : Ref sig .tc := ⟨.hbm, 145, rfl⟩
abbrev main_c_26 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_c_27 : Ref sig .tc := ⟨.hbm, 150, rfl⟩
abbrev main_v98 : Ref sig .tc := ⟨.hbm, 151, rfl⟩
abbrev main_v99 : Ref sig .tc := ⟨.hbm, 152, rfl⟩
abbrev main_c_28 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_c_29 : Ref sig .tc := ⟨.hbm, 161, rfl⟩
abbrev main_v107 : Ref sig .tc := ⟨.hbm, 162, rfl⟩
abbrev main_c_30 : Ref sig .tc := ⟨.hbm, 163, rfl⟩
abbrev main_v108 : Ref sig .tc := ⟨.hbm, 164, rfl⟩
abbrev main_v109 : Ref sig .tc := ⟨.hbm, 165, rfl⟩
abbrev main_c_31 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_c_32 : Ref sig .tc := ⟨.hbm, 170, rfl⟩
abbrev main_v113 : Ref sig .tc := ⟨.hbm, 171, rfl⟩
abbrev main_v114 : Ref sig .tc := ⟨.hbm, 172, rfl⟩
abbrev main_c_33 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_c_34 : Ref sig .tc := ⟨.hbm, 180, rfl⟩
abbrev main_v121 : Ref sig .tc := ⟨.hbm, 181, rfl⟩
abbrev main_v122 : Ref sig .tc := ⟨.hbm, 182, rfl⟩
abbrev main_cst_35 : Ref sig .tc := ⟨.hbm, 183, rfl⟩
abbrev main_v123 : Ref sig .tc := ⟨.hbm, 184, rfl⟩
abbrev main_c_36 : Ref sig .tc := ⟨.hbm, 185, rfl⟩
abbrev main_v124 : Ref sig .tc := ⟨.hbm, 186, rfl⟩
abbrev main_v125 : Ref sig .tc := ⟨.hbm, 187, rfl⟩
abbrev main_c_37 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_c_38 : Ref sig .tc := ⟨.hbm, 192, rfl⟩
abbrev main_v129 : Ref sig .tc := ⟨.hbm, 193, rfl⟩
abbrev main_v130 : Ref sig .tc := ⟨.hbm, 194, rfl⟩
abbrev main_c_39 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_values : Ref sig .tc := ⟨.hbm, 203, rfl⟩
abbrev main_indices : Ref sig .tc := ⟨.hbm, 204, rfl⟩
abbrev main_cst_40 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_call3_c : Ref sig .tc := ⟨.hbm, 209, rfl⟩
abbrev main_call3_v0 : Ref sig .tc := ⟨.hbm, 210, rfl⟩
abbrev main_call3_v1 : Ref sig .tc := ⟨.hbm, 211, rfl⟩
abbrev main_call3_c_0 : Ref sig .tc := ⟨.hbm, 212, rfl⟩
abbrev main_call3_v2 : Ref sig .tc := ⟨.hbm, 213, rfl⟩
abbrev main_call3_v3 : Ref sig .tc := ⟨.hbm, 214, rfl⟩
abbrev main_call3_v4 : Ref sig .tc := ⟨.hbm, 215, rfl⟩
abbrev main_call3_c_1 : Ref sig .tc := ⟨.hbm, 216, rfl⟩
abbrev main_call3_c_2 : Ref sig .tc := ⟨.hbm, 217, rfl⟩
abbrev main_call3_v5 : Ref sig .tc := ⟨.hbm, 218, rfl⟩
abbrev main_call3_v6 : Ref sig .tc := ⟨.hbm, 219, rfl⟩
abbrev main_call3_v7 : Ref sig .tc := ⟨.hbm, 220, rfl⟩
abbrev main_call3_v8 : Ref sig .tc := ⟨.hbm, 221, rfl⟩
abbrev main_call3_v9 : Ref sig .tc := ⟨.hbm, 222, rfl⟩
abbrev main_call3_v10 : Ref sig .tc := ⟨.hbm, 223, rfl⟩
abbrev main_call3_c_3 : Ref sig .tc := ⟨.hbm, 224, rfl⟩
abbrev main_call3_v11 : Ref sig .tc := ⟨.hbm, 225, rfl⟩
abbrev main_call3_v12 : Ref sig .tc := ⟨.hbm, 226, rfl⟩
abbrev main_call3_v13 : Ref sig .tc := ⟨.hbm, 227, rfl⟩
abbrev main_call3_cst : Ref sig .tc := ⟨.hbm, 228, rfl⟩
abbrev main_call3_v14 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_cst_41 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_c_42 : Ref sig .tc := ⟨.hbm, 249, rfl⟩
abbrev main_v159 : Ref sig .tc := ⟨.hbm, 250, rfl⟩
abbrev main_v160 : Ref sig .tc := ⟨.hbm, 251, rfl⟩
abbrev main_c_43 : Ref sig .tc := ⟨.hbm, 252, rfl⟩
abbrev main_v161 : Ref sig .tc := ⟨.hbm, 253, rfl⟩
abbrev main_v162 : Ref sig .tc := ⟨.hbm, 254, rfl⟩
abbrev main_v163 : Ref sig .tc := ⟨.hbm, 255, rfl⟩
abbrev main_c_44 : Ref sig .tc := ⟨.hbm, 256, rfl⟩
abbrev main_v164 : Ref sig .tc := ⟨.hbm, 257, rfl⟩
abbrev main_v165 : Ref sig .tc := ⟨.hbm, 258, rfl⟩
abbrev main_c_45 : Ref sig .tc := ⟨.hbm, 259, rfl⟩
abbrev main_v166 : Ref sig .tc := ⟨.hbm, 260, rfl⟩
abbrev main_v167 : Ref sig .tc := ⟨.hbm, 261, rfl⟩
abbrev main_v168 : Ref sig .tc := ⟨.hbm, 262, rfl⟩
abbrev main_v169 : Ref sig .tc := ⟨.hbm, 263, rfl⟩
abbrev main_v170 : Ref sig .tc := ⟨.hbm, 264, rfl⟩
abbrev main_v171 : Ref sig .tc := ⟨.hbm, 265, rfl⟩
abbrev main_v172 : Ref sig .tc := ⟨.hbm, 266, rfl⟩
abbrev main_cst_46 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_v176 : Ref sig .tc := ⟨.hbm, 271, rfl⟩
abbrev main_v177 : Ref sig .tc := ⟨.hbm, 272, rfl⟩
abbrev main_c_47 : Ref sig .tc := ⟨.hbm, 273, rfl⟩
abbrev main_v178 : Ref sig .tc := ⟨.hbm, 274, rfl⟩
abbrev main_v179 : Ref sig .tc := ⟨.hbm, 275, rfl⟩
abbrev main_c_48 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_c_49 : Ref sig .tc := ⟨.hbm, 280, rfl⟩
abbrev main_v183 : Ref sig .tc := ⟨.hbm, 281, rfl⟩
abbrev main_v184 : Ref sig .tc := ⟨.hbm, 282, rfl⟩
abbrev main_c_50 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_v189 : Ref sig .tc := ⟨.hbm, 288, rfl⟩
abbrev main_v190 : Ref sig .tc := ⟨.hbm, 289, rfl⟩
abbrev main_v191 : Ref sig .tc := ⟨.hbm, 290, rfl⟩
abbrev main_v192 : Ref sig .tc := ⟨.hbm, 291, rfl⟩
abbrev main_v193 : Ref sig .tc := ⟨.hbm, 292, rfl⟩
abbrev main_v194 : Ref sig .tc := ⟨.hbm, 293, rfl⟩
abbrev main_v195 : Ref sig .tc := ⟨.hbm, 294, rfl⟩
abbrev main_v196 : Ref sig .tc := ⟨.hbm, 295, rfl⟩
abbrev main_v197 : Ref sig .tc := ⟨.hbm, 296, rfl⟩
abbrev main_v198 : Ref sig .tc := ⟨.hbm, 297, rfl⟩
abbrev main_cst_51 : Ref sig .tc := ⟨.hbm, 298, rfl⟩
abbrev main_v199 : Ref sig .tc := ⟨.hbm, 299, rfl⟩
abbrev main_v200 : Ref sig .tc := ⟨.hbm, 300, rfl⟩
abbrev main_v201 : Ref sig .tc := ⟨.hbm, 301, rfl⟩
abbrev main_v202 : Ref sig .tc := ⟨.hbm, 302, rfl⟩
abbrev main_v203 : Ref sig .tc := ⟨.hbm, 303, rfl⟩
abbrev main_cst_52 : Ref sig .tc := ⟨.hbm, 304, rfl⟩
abbrev main_call4_v0 : Ref sig .tc := ⟨.hbm, 305, rfl⟩
abbrev main_call4_v1 : Ref sig .tc := ⟨.hbm, 306, rfl⟩
abbrev main_call4_v2 : Ref sig .tc := ⟨.hbm, 307, rfl⟩
abbrev main_v204 : Ref sig .tc := ⟨.hbm, 308, rfl⟩
abbrev main_cst_53 : Ref sig .tc := ⟨.hbm, 309, rfl⟩
abbrev main_v205 : Ref sig .tc := ⟨.hbm, 310, rfl⟩
abbrev main_cst_54 : Ref sig .tc := ⟨.hbm, 311, rfl⟩
abbrev main_v206 : Ref sig .tc := ⟨.hbm, 312, rfl⟩
abbrev main_v207 : Ref sig .tc := ⟨.hbm, 313, rfl⟩
abbrev main_v208 : Ref sig .tc := ⟨.hbm, 314, rfl⟩
abbrev main_v209 : Ref sig .tc := ⟨.hbm, 315, rfl⟩
abbrev main_v210 : Ref sig .tc := ⟨.hbm, 316, rfl⟩
abbrev main_v211 : Ref sig .tc := ⟨.hbm, 317, rfl⟩
abbrev main_cst_55 : Ref sig .tc := ⟨.hbm, 318, rfl⟩
abbrev main_v212 : Ref sig .tc := ⟨.hbm, 319, rfl⟩
abbrev main_v213 : Ref sig .tc := ⟨.hbm, 320, rfl⟩
abbrev main_v214 : Ref sig .tc := ⟨.hbm, 321, rfl⟩
abbrev main_v215 : Ref sig .tc := ⟨.hbm, 322, rfl⟩
abbrev main_v216 : Ref sig .tc := ⟨.hbm, 323, rfl⟩
abbrev main_v217 : Ref sig .tc := ⟨.hbm, 324, rfl⟩
abbrev main_v218 : Ref sig .tc := ⟨.hbm, 325, rfl⟩
abbrev main_v219 : Ref sig .tc := ⟨.hbm, 326, rfl⟩
abbrev main_v220 : Ref sig .tc := ⟨.hbm, 327, rfl⟩
abbrev main_v221 : Ref sig .tc := ⟨.hbm, 328, rfl⟩
abbrev main_v222 : Ref sig .tc := ⟨.hbm, 329, rfl⟩
abbrev main_v223 : Ref sig .tc := ⟨.hbm, 330, rfl⟩
abbrev main_call5_cst : Ref sig .tc := ⟨.hbm, 331, rfl⟩
abbrev main_call5_v0 : Ref sig .tc := ⟨.hbm, 332, rfl⟩
abbrev main_v224 : Ref sig .tc := ⟨.hbm, 333, rfl⟩
abbrev main_v225 : Ref sig .tc := ⟨.hbm, 334, rfl⟩
abbrev main_v226 : Ref sig .tc := ⟨.hbm, 335, rfl⟩
abbrev main_v227 : Ref sig .tc := ⟨.hbm, 336, rfl⟩
abbrev main_v228 : Ref sig .tc := ⟨.hbm, 337, rfl⟩
abbrev main_v229 : Ref sig .tc := ⟨.hbm, 338, rfl⟩

abbrev nD : Nat := 1
abbrev τ : Topo := Topo.v7x

variable {F : FTy → Type} [FloatOps F]
-- ==== Proof.Folds.lean ====
/- Left folds that stop depending on their order: a fold that writes one value, a fold that counts, and the running
   sum of counts that a windowed reduction computes. Nothing here names the programs. -/
module

public import Idealize.ShloMosaic.Lib.Pointwise

@[expose] public section

set_option maxRecDepth 16384

namespace Cert.PoolProof

open Idealize.ShloMosaic

/-- A fold that overwrites where `p` holds leaves the start value when `p` holds nowhere on the list. -/
theorem foldl_set_none {ι α : Type} (p : ι → Prop) [DecidablePred p] (v : ι → α) (l : List ι) (a : α)
    (h : ∀ n ∈ l, ¬ p n) : l.foldl (fun a n => if p n then v n else a) a = a := by
  induction l generalizing a with
  | nil => rfl
  | cons x l ih =>
    rw [List.foldl_cons, if_neg (h x (by simp)), ih _ fun n hn => h n (by simp [hn])]

/-- A fold that overwrites where `p` holds ends with `c` when `p` holds somewhere and every value written is `c`. -/
theorem foldl_set_some {ι α : Type} (p : ι → Prop) [DecidablePred p] (v : ι → α) (l : List ι) (a c : α)
    (h : ∀ n ∈ l, p n → v n = c) (hx : (∃ n ∈ l, p n) ∨ a = c) :
    l.foldl (fun a n => if p n then v n else a) a = c := by
  induction l generalizing a with
  | nil => rcases hx with ⟨n, hn, _⟩ | rfl
           · simp at hn
           · rfl
  | cons x l ih =>
    rw [List.foldl_cons]
    refine ih _ (fun n hn => h n (by simp [hn])) ?_
    by_cases hp : p x
    · rw [if_pos hp]; exact .inr (h x (by simp) hp)
    · rw [if_neg hp]
      rcases hx with ⟨n, hn, pn⟩ | rfl
      · rcases List.mem_cons.1 hn with rfl | hn
        · exact absurd pn hp
        · exact .inl ⟨n, hn, pn⟩
      · exact .inr rfl

/-- A fold that adds the word one where `p` holds adds the number of places where it holds. -/
theorem foldl_count {ι : Type} (p : ι → Prop) [DecidablePred p] (l : List ι) (a : BitVec 32) :
    l.foldl (fun a n => if p n then IntOp.addi a 1#32 else a) a = a + BitVec.ofNat 32 (l.countP (fun n => decide (p n))) := by
  induction l generalizing a with
  | nil => simp
  | cons x l ih =>
    rw [List.foldl_cons, ih]
    by_cases hp : p x
    · rw [if_pos hp, List.countP_cons_of_pos (by simpa using hp)]
      show a + 1#32 + _ = _
      rw [BitVec.ofNat_add, BitVec.add_assoc, BitVec.add_comm 1#32]
    · rw [if_neg hp, List.countP_cons_of_neg (by simpa using hp)]

/-- Counting over the list of all `Fin N` is the size of the set. -/
theorem countP_finRange {N : ℕ} (p : Fin N → Prop) [DecidablePred p] :
    (List.finRange N).countP (fun n => decide (p n)) = (Finset.univ.filter p).card := by
  rw [List.countP_eq_length_filter, Finset.card_def, Finset.filter_val, Finset.univ, Fin.fintype]
  simp [Multiset.filter_coe]

/-- A fold of word additions of numbers is the number of the sum. -/
theorem foldl_addi_ofNat {ι : Type} (g : ι → ℕ) (x : ι → BitVec 32) (l : List ι) (hx : ∀ n, x n = BitVec.ofNat 32 (g n)) (a : ℕ) :
    l.foldl (fun r n => IntOp.addi r (x n)) (BitVec.ofNat 32 a) = BitVec.ofNat 32 (a + (l.map g).sum) := by
  induction l generalizing a with
  | nil => simp
  | cons y l ih =>
    rw [List.foldl_cons, hx y]
    show l.foldl _ (BitVec.ofNat 32 a + BitVec.ofNat 32 (g y)) = _
    rw [← BitVec.ofNat_add, ih, List.map_cons, List.sum_cons, Nat.add_assoc]

/-- The number of `i` whose key is `b`. -/
def cnt {N : ℕ} (nb : Fin N → ℤ) (b : ℕ) : ℕ := (Finset.univ.filter fun i => nb i = (b : ℤ)).card

/-- The number of `i` whose key is one of `0 … b - 1`: where the run of key `b` starts, the keys sorted. -/
def start {N : ℕ} (nb : Fin N → ℤ) (b : ℕ) : ℕ := (Finset.univ.filter fun i => 0 ≤ nb i ∧ nb i < (b : ℤ)).card

/-- A run starts within the list of keys. -/
theorem start_le {N : ℕ} (nb : Fin N → ℤ) (b : ℕ) : start nb b ≤ N := by
  unfold start; exact (Finset.card_le_univ _).trans (by simp)

/-- The run of key `b` ends where the run of key `b + 1` starts. -/
theorem start_succ {N : ℕ} (nb : Fin N → ℤ) (b : ℕ) : start nb (b + 1) = start nb b + cnt nb b := by
  unfold start cnt
  rw [← Finset.card_union_of_disjoint]
  · congr 1
    ext i
    simp only [Finset.mem_filter, Finset.mem_univ, true_and, Finset.mem_union]
    push_cast
    omega
  · rw [Finset.disjoint_filter]
    intro i _ h e
    omega

/-- The first run starts at 0. -/
theorem start_zero {N : ℕ} (nb : Fin N → ℤ) : start nb 0 = 0 := by
  unfold start
  rw [Finset.card_eq_zero, Finset.filter_eq_empty_iff]
  intro i _ h
  omega

/-- A run ends within the list of keys. -/
theorem start_add_cnt_le {N : ℕ} (nb : Fin N → ℤ) (b : ℕ) : start nb b + cnt nb b ≤ N := start_succ nb b ▸ start_le nb _

/-- Starts are the running sums of the counts. -/
theorem start_eq_sum {N : ℕ} (nb : Fin N → ℤ) (b : ℕ) : start nb b = ∑ a ∈ Finset.range b, cnt nb a := by
  induction b with
  | zero => simp [start_zero]
  | succ b ih => rw [start_succ, ih, Finset.sum_range_succ]

/-- A window of `n` cells ending at `j`, the cells before the first taken as zero, sums to the running sum up to `j`. -/
theorem sum_window (n : ℕ) (c : ℕ → ℕ) (j : ℕ) (hj : j < n) :
    ∑ k : Fin n, (if n - 1 ≤ j + k.val then c (j + k.val - (n - 1)) else 0) = ∑ a ∈ Finset.range (j + 1), c a := by
  rw [Fin.sum_univ_eq_sum_range (fun k => if n - 1 ≤ j + k then c (j + k - (n - 1)) else 0) n, ← Finset.sum_filter]
  refine Finset.sum_nbij' (fun k => j + k - (n - 1)) (fun a => a + (n - 1) - j) ?_ ?_ ?_ ?_ ?_
  all_goals intro a ha
  all_goals simp only [Finset.mem_filter, Finset.mem_range] at ha ⊢
  all_goals omega

/-- The keys increasing, key `b`'s members are the places from its start on, as many as it counts. -/
theorem mem_run {N : ℕ} (nb : Fin N → ℤ) (hm : ∀ i j : Fin N, i ≤ j → nb i ≤ nb j) (h0 : ∀ i, 0 ≤ nb i) (b : ℕ) (i : Fin N) :
    i.val < start nb b ↔ nb i < b := by
  have low : ∀ (S : Finset (Fin N)), (∀ i j : Fin N, i ≤ j → j ∈ S → i ∈ S) → ∀ i : Fin N, i.val < S.card ↔ i ∈ S := by
    intro S hS i
    constructor
    · intro h
      by_contra hi
      have : S ⊆ Finset.univ.filter (fun j : Fin N => j.val < i.val) := by
        intro j hj
        simp only [Finset.mem_filter, Finset.mem_univ, true_and]
        by_contra hji
        exact hi (hS i j (by rw [Fin.le_def]; omega) hj)
      have hc := Finset.card_le_card this
      rw [show (Finset.univ.filter fun j : Fin N => j.val < i.val) = Finset.Iio i by
        ext j; simp only [Finset.mem_filter, Finset.mem_univ, true_and, Finset.mem_Iio]; exact Iff.rfl, Fin.card_Iio] at hc
      omega
    · intro hi
      have : Finset.Iic i ⊆ S := fun j hj => hS j i (Finset.mem_Iic.1 hj) hi
      have hc := Finset.card_le_card this
      rw [Fin.card_Iic] at hc
      omega
  unfold start
  rw [low]
  · simp [h0]
  · intro i j hij hj
    simp only [Finset.mem_filter, Finset.mem_univ, true_and] at hj ⊢
    have := hm i j hij
    have := h0 i
    omega

end Cert.PoolProof
-- ==== Proof.Scatters.lean ====
/- Where the updates of the scatters used here land, and what a scatter holds at one element. -/
module

public import proofs.«01_k».proof.Proof.Folds

@[expose] public section

set_option maxRecDepth 16384

namespace Cert.PoolProof

open Idealize.ShloMosaic

/-- A scatter read at one element is a fold over the updates that land there. -/
theorem scatter_read {α : Type} {s si u : Shape} {w : ℕ} (d : ScatterDims s si u) (f : α → α → α) (x : s.Idx → α)
    (idx : IVec si w) (upd : u.Idx → α) (i : s.Idx) :
    Host.scatter d f x idx upd i = (List.finRange u.numel).foldl
      (fun a n => if d.resultIdx? (u.rowMajor.symm n) idx = some i then f a (upd (u.rowMajor.symm n)) else a) (x i) := by
  unfold Host.scatter
  generalize List.finRange u.numel = l
  induction l generalizing x with
  | nil => rfl
  | cons n l ih =>
    rw [List.foldl_cons, List.foldl_cons, ih]
    congr 1
    cases d.resultIdx? (u.rowMajor.symm n) idx with
    | none => simp
    | some p =>
      by_cases e : p = i
      · subst e; simp
      · rw [if_neg (fun q => e (Option.some.inj q))]
        show (if i = p then _ else _) = _
        rw [if_neg (fun q => e q.symm)]

/-- An update lands at an element when start plus window coordinate is the element's on every axis. -/
theorem lands_iff {s si u : Shape} {w : ℕ} (d : ScatterDims s si u) (j : u.Idx) (idx : IVec si w) (i : s.Idx) :
    d.resultIdx? j idx = some i ↔ ∀ a, d.start j idx a + d.window j a = ((i a).val : ℤ) := by
  unfold ScatterDims.resultIdx?
  constructor
  · intro h a
    split at h
    · rename_i hb
      have e := congrFun (Option.some.inj h) a
      rw [← e]
      show _ = (((d.start j idx a + d.window j a).toNat : ℕ) : ℤ)
      rw [Int.toNat_of_nonneg (hb a).1]
    · exact absurd h nofun
  · intro h
    rw [dif_pos fun a => by rw [h a]; exact ⟨by omega, by have := (i a).isLt; omega⟩]
    congr 1
    funext a
    apply Fin.ext
    show (d.start j idx a + d.window j a).toNat = _
    rw [h a]; simp

/-- A scatter that overwrites holds `c` at an element every landing update of which is `c`, when there is one. -/
theorem scatter_set_some {α : Type} {s si u : Shape} {w : ℕ} (d : ScatterDims s si u) (x : s.Idx → α)
    (idx : IVec si w) (upd : u.Idx → α) (i : s.Idx) (j : u.Idx) (hj : ∀ a, d.start j idx a + d.window j a = ((i a).val : ℤ))
    (hu : ∀ j', (∀ a, d.start j' idx a + d.window j' a = ((i a).val : ℤ)) → j' = j) :
    Host.scatter d (fun _ b => b) x idx upd i = upd j := by
  rw [scatter_read]
  refine foldl_set_some _ _ _ _ _ (fun n _ h => ?_) (.inl ⟨u.rowMajor j, List.mem_finRange _, ?_⟩)
  · rw [hu _ ((lands_iff ..).1 h)]
  · rw [Equiv.symm_apply_apply]; exact (lands_iff ..).2 hj

/-- A scatter that overwrites keeps the operand's element where no update lands. -/
theorem scatter_set_none {α : Type} {s si u : Shape} {w : ℕ} (d : ScatterDims s si u) (x : s.Idx → α)
    (idx : IVec si w) (upd : u.Idx → α) (i : s.Idx)
    (hu : ∀ j, ¬ ∀ a, d.start j idx a + d.window j a = ((i a).val : ℤ)) :
    Host.scatter d (fun _ b => b) x idx upd i = x i := by
  rw [scatter_read]
  exact foldl_set_none _ _ _ _ (fun n _ h => hu _ ((lands_iff ..).1 h))

section starts
variable {w : ℕ}

/-- One start word per scalar update, into a vector: no window. -/
theorem window_vec {K N : ℕ} (d : ScatterDims (⟨1, ![K]⟩ : Shape) (⟨2, ![N, 1]⟩ : Shape) (⟨1, ![N]⟩ : Shape))
    (h1 : d.updateWindowDims = []) (h2 : d.insertedWindowDims = [0]) (h3 : d.scatterDimsToOperandDims = [0]) (h4 : d.indexVectorDim = 1)
    (idx : IVec (⟨2, ![N, 1]⟩ : Shape) w) (n : Fin N) (a : Fin 1) :
    d.start (ix1 n) idx a + d.window (ix1 n) a = (idx (ix2 n 0)).toInt := by
  obtain ⟨_, _, _, _, wf⟩ := d
  simp only at h1 h2 h3 h4
  subst h1 h2 h3 h4
  match a with
  | ⟨0, _⟩ =>
    have hs : ∀ p q, ScatterDims.siIdx (s := ⟨1, ![K]⟩) (si := ⟨2, ![N, 1]⟩) (u := ⟨1, ![N]⟩) ⟨[], [0], [0], 1, wf⟩ (ix1 n) ⟨p, q⟩ = ix2 n 0 := by
      intro p q
      funext b
      match b with
      | ⟨0, _⟩ => rfl
      | ⟨1, _⟩ => apply Fin.ext; show p = 0; simp at q; omega
    have h0 : ScatterDims.window (s := ⟨1, ![K]⟩) (si := ⟨2, ![N, 1]⟩) (u := ⟨1, ![N]⟩) ⟨[], [0], [0], 1, wf⟩ (ix1 n) ⟨0, Nat.one_pos⟩ = 0 := rfl
    rw [h0]
    unfold ScatterDims.start
    rw [dif_pos (by simp), hs]
    simp

/-- One start word for a whole block of rows, into a taller matrix: the window is the block. -/
theorem window_rows {R C N : ℕ} (d : ScatterDims (⟨2, ![R, C]⟩ : Shape) (⟨1, ![1]⟩ : Shape) (⟨2, ![N, C]⟩ : Shape))
    (h1 : d.updateWindowDims = [0, 1]) (h2 : d.insertedWindowDims = []) (h3 : d.scatterDimsToOperandDims = [0]) (h4 : d.indexVectorDim = 0)
    (idx : IVec (⟨1, ![1]⟩ : Shape) w) (n : Fin N) (c : Fin C) :
    d.start (ix2 n c) idx 0 + d.window (ix2 n c) 0 = (idx (ix1 0)).toInt + n.val
      ∧ d.start (ix2 n c) idx 1 + d.window (ix2 n c) 1 = c.val := by
  obtain ⟨_, _, _, _, wf⟩ := d
  simp only at h1 h2 h3 h4
  subst h1 h2 h3 h4
  have hs : ∀ p q, ScatterDims.siIdx (s := ⟨2, ![R, C]⟩) (si := ⟨1, ![1]⟩) (u := ⟨2, ![N, C]⟩) ⟨[0, 1], [], [0], 0, wf⟩ (ix2 n c) ⟨p, q⟩ = ix1 0 := by
    intro p q
    funext b
    match b with
    | ⟨0, _⟩ => apply Fin.ext; show p = 0; simp at q; omega
  have h0 : ScatterDims.window (s := ⟨2, ![R, C]⟩) (si := ⟨1, ![1]⟩) (u := ⟨2, ![N, C]⟩) ⟨[0, 1], [], [0], 0, wf⟩ (ix2 n c) 0 = n.val := rfl
  have h1 : ScatterDims.window (s := ⟨2, ![R, C]⟩) (si := ⟨1, ![1]⟩) (u := ⟨2, ![N, C]⟩) ⟨[0, 1], [], [0], 0, wf⟩ (ix2 n c) 1 = c.val := rfl
  rw [h0, h1]
  unfold ScatterDims.start
  rw [dif_pos (by simp), dif_neg (by simp), hs]
  simp

/-- A row of scalars placed at one start pair, into a matrix: the window runs along the row. -/
theorem window_row {R C N : ℕ} (d : ScatterDims (⟨2, ![R, C]⟩ : Shape) (⟨1, ![2]⟩ : Shape) (⟨1, ![N]⟩ : Shape))
    (h1 : d.updateWindowDims = [0]) (h2 : d.insertedWindowDims = [0]) (h3 : d.scatterDimsToOperandDims = [0, 1]) (h4 : d.indexVectorDim = 0)
    (idx : IVec (⟨1, ![2]⟩ : Shape) w) (n : Fin N) :
    d.start (ix1 n) idx 0 + d.window (ix1 n) 0 = (idx (ix1 0)).toInt
      ∧ d.start (ix1 n) idx 1 + d.window (ix1 n) 1 = (idx (ix1 1)).toInt + n.val := by
  obtain ⟨_, _, _, _, wf⟩ := d
  simp only at h1 h2 h3 h4
  subst h1 h2 h3 h4
  have hs : ∀ p q, ScatterDims.siIdx (s := ⟨2, ![R, C]⟩) (si := ⟨1, ![2]⟩) (u := ⟨1, ![N]⟩) ⟨[0], [0], [0, 1], 0, wf⟩ (ix1 n) ⟨p, q⟩ = ix1 ⟨p, q⟩ := by
    intro p q
    funext b
    match b with
    | ⟨0, _⟩ => rfl
  have h0 : ScatterDims.window (s := ⟨2, ![R, C]⟩) (si := ⟨1, ![2]⟩) (u := ⟨1, ![N]⟩) ⟨[0], [0], [0, 1], 0, wf⟩ (ix1 n) 0 = 0 := rfl
  have h1 : ScatterDims.window (s := ⟨2, ![R, C]⟩) (si := ⟨1, ![2]⟩) (u := ⟨1, ![N]⟩) ⟨[0], [0], [0, 1], 0, wf⟩ (ix1 n) 1 = n.val := rfl
  rw [h0, h1]
  unfold ScatterDims.start
  rw [dif_pos (by simp), dif_pos (by simp), hs, hs]
  simp

/-- A pair of start words per scalar update, into a matrix: no window. -/
theorem window_cell {R C N : ℕ} (d : ScatterDims (⟨2, ![R, C]⟩ : Shape) (⟨2, ![N, 2]⟩ : Shape) (⟨1, ![N]⟩ : Shape))
    (h1 : d.updateWindowDims = []) (h2 : d.insertedWindowDims = [0, 1]) (h3 : d.scatterDimsToOperandDims = [0, 1]) (h4 : d.indexVectorDim = 1)
    (idx : IVec (⟨2, ![N, 2]⟩ : Shape) w) (n : Fin N) :
    d.start (ix1 n) idx 0 + d.window (ix1 n) 0 = (idx (ix2 n 0)).toInt
      ∧ d.start (ix1 n) idx 1 + d.window (ix1 n) 1 = (idx (ix2 n 1)).toInt := by
  obtain ⟨_, _, _, _, wf⟩ := d
  simp only at h1 h2 h3 h4
  subst h1 h2 h3 h4
  have hs : ∀ p q, ScatterDims.siIdx (s := ⟨2, ![R, C]⟩) (si := ⟨2, ![N, 2]⟩) (u := ⟨1, ![N]⟩) ⟨[], [0, 1], [0, 1], 1, wf⟩ (ix1 n) ⟨p, q⟩ = ix2 n ⟨p, q⟩ := by
    intro p q
    funext b
    match b with
    | ⟨0, _⟩ => rfl
    | ⟨1, _⟩ => rfl
  have h0 : ScatterDims.window (s := ⟨2, ![R, C]⟩) (si := ⟨2, ![N, 2]⟩) (u := ⟨1, ![N]⟩) ⟨[], [0, 1], [0, 1], 1, wf⟩ (ix1 n) 0 = 0 := rfl
  have h1 : ScatterDims.window (s := ⟨2, ![R, C]⟩) (si := ⟨2, ![N, 2]⟩) (u := ⟨1, ![N]⟩) ⟨[], [0, 1], [0, 1], 1, wf⟩ (ix1 n) 1 = 0 := rfl
  rw [h0, h1]
  unfold ScatterDims.start
  rw [dif_pos (by simp), dif_pos (by simp), hs, hs]
  simp

/-- A pair of start words per row, into a stack of matrices: the window is the row. -/
theorem window_line {R C E N : ℕ} (d : ScatterDims (⟨3, ![R, C, E]⟩ : Shape) (⟨2, ![N, 2]⟩ : Shape) (⟨2, ![N, E]⟩ : Shape))
    (h1 : d.updateWindowDims = [1]) (h2 : d.insertedWindowDims = [0, 1]) (h3 : d.scatterDimsToOperandDims = [0, 1]) (h4 : d.indexVectorDim = 1)
    (idx : IVec (⟨2, ![N, 2]⟩ : Shape) w) (n : Fin N) (e : Fin E) :
    d.start (ix2 n e) idx 0 + d.window (ix2 n e) 0 = (idx (ix2 n 0)).toInt
      ∧ d.start (ix2 n e) idx 1 + d.window (ix2 n e) 1 = (idx (ix2 n 1)).toInt
      ∧ d.start (ix2 n e) idx 2 + d.window (ix2 n e) 2 = e.val := by
  obtain ⟨_, _, _, _, wf⟩ := d
  simp only at h1 h2 h3 h4
  subst h1 h2 h3 h4
  have hs : ∀ p q, ScatterDims.siIdx (s := ⟨3, ![R, C, E]⟩) (si := ⟨2, ![N, 2]⟩) (u := ⟨2, ![N, E]⟩) ⟨[1], [0, 1], [0, 1], 1, wf⟩ (ix2 n e) ⟨p, q⟩ = ix2 n ⟨p, q⟩ := by
    intro p q
    funext b
    match b with
    | ⟨0, _⟩ => rfl
    | ⟨1, _⟩ => rfl
  have h0 : ScatterDims.window (s := ⟨3, ![R, C, E]⟩) (si := ⟨2, ![N, 2]⟩) (u := ⟨2, ![N, E]⟩) ⟨[1], [0, 1], [0, 1], 1, wf⟩ (ix2 n e) 0 = 0 := rfl
  have h1 : ScatterDims.window (s := ⟨3, ![R, C, E]⟩) (si := ⟨2, ![N, 2]⟩) (u := ⟨2, ![N, E]⟩) ⟨[1], [0, 1], [0, 1], 1, wf⟩ (ix2 n e) 1 = 0 := rfl
  have h2 : ScatterDims.window (s := ⟨3, ![R, C, E]⟩) (si := ⟨2, ![N, 2]⟩) (u := ⟨2, ![N, E]⟩) ⟨[1], [0, 1], [0, 1], 1, wf⟩ (ix2 n e) 2 = e.val := rfl
  rw [h0, h1, h2]
  unfold ScatterDims.start
  rw [dif_pos (by simp), dif_pos (by simp), dif_neg (by simp), hs, hs]
  simp

end starts

end Cert.PoolProof
-- ==== Proof.Counts.lean ====
/- The counts of a word vector's values, as a scatter of ones holds them, and their running sums. -/
module

public import proofs.«01_k».proof.Proof.Scatters

@[expose] public section

set_option maxRecDepth 16384

namespace Cert.PoolProof

open Idealize.ShloMosaic

/-- A scatter that adds ones counts the start words equal to each place. -/
theorem counts_read {K N : ℕ} (d : ScatterDims (⟨1, ![K]⟩ : Shape) (⟨2, ![N, 1]⟩ : Shape) (⟨1, ![N]⟩ : Shape))
    (h1 : d.updateWindowDims = []) (h2 : d.insertedWindowDims = [0]) (h3 : d.scatterDimsToOperandDims = [0]) (h4 : d.indexVectorDim = 1)
    (x : IVec (⟨1, ![K]⟩ : Shape) 32) (hx : ∀ i, x i = 0#32) (idx : IVec (⟨2, ![N, 1]⟩ : Shape) 32)
    (upd : IVec (⟨1, ![N]⟩ : Shape) 32) (hu : ∀ i, upd i = 1#32) (b : Fin K) :
    Host.scatter d IntOp.addi x idx upd (ix1 b) = BitVec.ofNat 32 (cnt (fun i : Fin N => (idx (ix2 i 0)).toInt) b.val) := by
  rw [scatter_read]
  simp only [hu]
  rw [foldl_count, hx, countP_finRange, BitVec.zero_add]
  congr 1
  unfold cnt
  have land : ∀ j : (⟨1, ![N]⟩ : Shape).Idx, d.resultIdx? j idx = some (ix1 b) ↔ (idx (ix2 (j 0) 0)).toInt = (b.val : ℤ) := by
    intro j
    obtain ⟨n, rfl⟩ : ∃ n : Fin N, j = ix1 n := ⟨j 0, eq_ix1 j⟩
    rw [lands_iff]
    constructor
    · intro h; have := h 0; rw [window_vec d h1 h2 h3 h4] at this; exact this
    · intro h a
      rw [window_vec d h1 h2 h3 h4]
      match a with
      | ⟨0, _⟩ => exact h
  refine Finset.card_nbij' (fun n => ((⟨1, ![N]⟩ : Shape).rowMajor.symm n) 0) (fun i => (⟨1, ![N]⟩ : Shape).rowMajor (ix1 i)) ?_ ?_ ?_ ?_
  · intro n hn
    simp only [Finset.coe_filter, Finset.mem_univ, true_and, Set.mem_setOf_eq] at hn ⊢
    exact (land _).1 hn
  · intro i hi
    simp only [Finset.coe_filter, Finset.mem_univ, true_and, Set.mem_setOf_eq] at hi ⊢
    rw [Equiv.symm_apply_apply]
    exact (land _).2 hi
  · intro n _
    show (⟨1, ![N]⟩ : Shape).rowMajor (ix1 (((⟨1, ![N]⟩ : Shape).rowMajor.symm n) 0)) = n
    rw [← eq_ix1, Equiv.apply_symm_apply]
  · intro i _
    show ((⟨1, ![N]⟩ : Shape).rowMajor.symm ((⟨1, ![N]⟩ : Shape).rowMajor (ix1 i))) 0 = i
    rw [Equiv.symm_apply_apply]; rfl

/-- The sum of a list over all positions is the sum over them, whatever the length is called. -/
theorem sum_finRange {n m : ℕ} (h : n = m) (g : ℕ → ℕ) : ((List.finRange n).map fun k => g k.val).sum = ∑ k : Fin m, g k.val := by
  subst h
  rw [← List.ofFn_eq_map, List.sum_ofFn]

/-- The windowed sum of 64 cells ending at each place is the running sum. -/
theorem running_read (x : IVec (⟨1, ![64]⟩ : Shape) 32) (c : ℕ → ℕ) (hx : ∀ b : Fin 64, x (ix1 b) = BitVec.ofNat 32 (c b.val))
    {u : Shape} (init : IVec u 32) (h : Shape.ReduceWindows (⟨1, ![64]⟩ : Shape) ![64] ![1] ![63] ![0] (⟨1, ![64]⟩ : Shape)) (hu : 0 < u.numel)
    (h0 : ∀ i, init i = 0#32) (j : Fin 64) :
    Host.reduceWindow IntOp.addi ![64] ![1] ![63] ![0] x init h hu (ix1 j)
      = BitVec.ofNat 32 (∑ a ∈ Finset.range (j.val + 1), c a) := by
  unfold Host.reduceWindow
  simp only [h0]
  have hn : (⟨1, ![64]⟩ : Shape).numel = 64 := by decide
  have hv : ∀ n : Fin (⟨1, ![64]⟩ : Shape).numel, (((⟨1, ![64]⟩ : Shape).rowMajor.symm n) 0).val = n.val := by
    intro n
    have := Shape.rowMajor_val_one ((⟨1, ![64]⟩ : Shape).rowMajor.symm n)
    rw [Equiv.apply_symm_apply] at this
    exact this.symm
  refine (foldl_addi_ofNat (fun n : Fin (⟨1, ![64]⟩ : Shape).numel => if 63 ≤ j.val + n.val then c (j.val + n.val - 63) else 0)
    _ (List.finRange _) (fun n => ?_) 0).trans ?_
  rotate_left
  · refine congrArg (BitVec.ofNat 32) ?_
    rw [Nat.zero_add, sum_finRange hn (fun k => if 63 ≤ j.val + k then c (j.val + k - 63) else 0)]
    exact sum_window 64 c j.val j.isLt
  · have hnn : n.val < 64 := by have := n.isLt; omega
    by_cases hc : 63 ≤ j.val + n.val
    · rw [dif_pos, if_pos hc]
      · refine (congrArg x (a₂ := ix1 (⟨j.val + n.val - 63, by omega⟩ : Fin 64)) ?_).trans (hx _)
        funext a
        match a with
        | ⟨0, _⟩ =>
          apply Fin.ext
          show j.val * 1 + (((⟨1, ![64]⟩ : Shape).rowMajor.symm n) 0).val - 63 = _
          rw [hv, Nat.mul_one]
          rfl
      · intro a
        match a with
        | ⟨0, _⟩ =>
          show 63 ≤ j.val * 1 + (((⟨1, ![64]⟩ : Shape).rowMajor.symm n) 0).val ∧ j.val * 1 + (((⟨1, ![64]⟩ : Shape).rowMajor.symm n) 0).val - 63 < 64
          rw [hv]; omega
    · rw [dif_neg, if_neg hc]
      intro hin
      have := (hin 0).1
      have e' : 63 ≤ j.val * 1 + (((⟨1, ![64]⟩ : Shape).rowMajor.symm n) 0).val := this
      rw [hv] at e'; omega

/-- The running sum less the count is the start. -/
theorem start_word {N : ℕ} (nb : Fin N → ℤ) (b : ℕ) :
    BitVec.ofNat 32 (∑ a ∈ Finset.range (b + 1), cnt nb a) - BitVec.ofNat 32 (cnt nb b) = BitVec.ofNat 32 (start nb b) := by
  rw [← start_eq_sum, start_succ, BitVec.ofNat_add, BitVec.add_sub_cancel]

end Cert.PoolProof
-- ==== Proof.WindowKernel.lean ====
/- The words the kernel reads at a grid point, and that the window of rows they ask for lies inside the padded array. -/
module

public import proofs.«01_k».proof.Proof.StartsKernel

@[expose] public section

set_option maxRecDepth 16384

noncomputable section

namespace Cert.KernelProof

open Cert.Kernel Cert.Kernel.Gen Cert.PoolProof
open Idealize.ShloMosaic Idealize.ShloMosaic.TcCoe Idealize.SL.Sem

variable {F : FTy → Type} [FloatOps F]
variable (m : (ℓ : Loc nD τ sig) → Buf (Elt F) ℓ)

/-- The row a window starts at, as the kernel computes it from a start word: the start rounded down to a multiple of eight. -/
theorem mult_eq : ∀ s : Fin 10001, k0_mult1 (BitVec.ofNat 32 s.val) = BitVec.ofNat 32 (s.val / 8 * 8) := by
  decide +kernel

/-- A start at most 10000 meets the side condition: its window of 520 rows ends inside the 10752 rows there are. -/
theorem chk_of_le (s : ℕ) (h : s ≤ 10000) : k0_chk1 (BitVec.ofNat 32 s) := by
  have e : (k0_mult1 (BitVec.ofNat 32 s)).toNat = s / 8 * 8 := by
    rw [mult_eq ⟨s, by omega⟩, BitVec.toNat_ofNat]
    exact Nat.mod_eq_of_lt (by show s / 8 * 8 < _; omega)
  have b : (k0_mult1 (BitVec.ofNat 32 s)).toNat + 520 ≤ 10752 := by omega
  refine ⟨by rw [e]; exact Nat.dvd_mul_left .., fun a => ?_, fun a => ?_⟩
  · match a with
    | ⟨0, _⟩ => exact b
    | ⟨1, _⟩ => show 0 + 256 ≤ 256; omega
  · match a with
    | ⟨0, _⟩ => exact b
    | ⟨1, _⟩ => show 0 + 1 ≤ 1; omega

/-- The graph a grid point works on. -/
def graphAt (i : grid0.Coords) : Fin 64 := ⟨(i 0).val, (i 0).isLt⟩

/-- The word the kernel reads off table 1 at a grid point is its graph's start. -/
theorem word1 (i : grid0.Coords) (X : IVec S64 32) :
    tbM0_1.view.readAt (Elt F) (Rect.unit (s := S64) (k0_off1 i) S1.size (k0_off1_inb i)).toLoadRect X
      (Shape.Idx.first (numel1_S1.symm ▸ Nat.one_pos)) = X (ix1 (graphAt i)) := by
  rw [View.readAt_apply]
  refine congrArg X ?_
  funext a
  match a with
  | ⟨0, _⟩ =>
    apply Fin.ext
    show k0_off1 i 0 + 1 * 0 = (i 0).val
    have : (i 0).val < 64 := (i 0).isLt
    show (BitVec.ofNat 32 (i 0).val).toNat + 1 * 0 = (i 0).val
    rw [BitVec.toNat_ofNat]; omega

/-- The pipeline's own side condition on the tables is empty: no window's index map reads one. -/
theorem ok : Gen.Ok m := trivial

/-- The side condition of the kernel's loads holds at every grid point. -/
theorem hyps : Gen.Hyps m (ok m) :=
  Hyps.of (m := m) fun c t => by
    show k0_chk1 _
    rw [tbl1]
    erw [word1]
    rw [startWords_at]
    exact chk_of_le _ (start_le ..)

end Cert.KernelProof
-- ==== Proof.StartsIdeal.lean ====
/- The two word tables the kernel's launch reads: how many nodes each graph has, and where its run of nodes starts. From
   them the side condition of the kernel's loads: the window of rows read for a graph lies inside the padded array. -/
module

public import proofs.«01_k».proof.Proof.Counts
public import proofs.«01_k».proof.Proof.Gen.KernelIdeal.Frame
public import Idealize.ShloMosaic.Lib.Claim

@[expose] public section

set_option maxRecDepth 16384

noncomputable section

namespace Cert.KernelIdealProof

open Cert.KernelIdeal Cert.KernelIdeal.Gen Cert.PoolProof
open Idealize.ShloMosaic Idealize.ShloMosaic.TcCoe Idealize.SL.Sem

variable {F : FTy → Type} [FloatOps F] [Named F]
variable (m : (ℓ : Loc nD τ sig) → Buf (Elt F) ℓ)

/-- The graph numbers as the counting reads them: a negative one counted from the end. -/
def graphWords (batch : IVec S10000 32) : IVec S10000x1 32 :=
  broadcastInDim S10000x1 ![0] bcast_S10000_S10000x1_0
    (select (cmpi CmpIPredicate.slt batch (broadcastInDim S10000 ![] bcast_S_S10000 (constantI S_ 32 0#32)))
      (addi batch (broadcastInDim S10000 ![] bcast_S_S10000 (constantI S_ 32 64#32))) batch)

/-- The graph of each node as an integer. -/
def graphOf (batch : IVec S10000 32) (i : Fin 10000) : ℤ := (graphWords batch (ix2 i 0)).toInt

/-- The batch argument of a launch. -/
abbrev batchOf (m : (ℓ : Loc nD τ sig) → Buf (Elt F) ℓ) : IVec S10000 32 := m (0, Proc.tc.devRef main_arg2)

/-- How many nodes each graph has, as words. -/
def countWords (batch : IVec S10000 32) : IVec S64 32 :=
  Host.scatter scatter_S64_S10000x1_S10000_n_0_0_1 IntOp.addi (broadcastInDim S64 ![] bcast_S_S64 (constantI S_ 32 0#32))
    (graphWords batch) (broadcastInDim S10000 ![] bcast_S_S10000 (constantI S_ 32 1#32))

/-- Where each graph's run of nodes starts, as words. -/
def startWords (batch : IVec S10000 32) : IVec S64 32 :=
  subi (Host.reduceWindow IntOp.addi ![64] ![1] ![63] ![0] (countWords batch)
    (broadcastInDim S_ ![] bcast_S_S_ (constantI S_ 32 0#32)) reduceWindows_S64_S64_w64s1p63_0 h_S_) (countWords batch)

/-- The count words are the counts. -/
theorem countWords_at (batch : IVec S10000 32) (b : Fin 64) :
    countWords batch (ix1 b) = BitVec.ofNat 32 (cnt (graphOf batch) b.val) :=
  counts_read scatter_S64_S10000x1_S10000_n_0_0_1 rfl rfl rfl rfl _ (fun _ => rfl) _ _ (fun _ => rfl) b

/-- The start words are the starts. -/
theorem startWords_at (batch : IVec S10000 32) (b : Fin 64) :
    startWords batch (ix1 b) = BitVec.ofNat 32 (start (graphOf batch) b.val) := by
  rw [← start_word]
  show Host.reduceWindow IntOp.addi ![64] ![1] ![63] ![0] (countWords batch) _ _ _ (ix1 b) - countWords batch (ix1 b) = _
  rw [countWords_at]
  refine congrArg (· - _) ?_
  exact running_read _ (cnt (graphOf batch)) (fun b => countWords_at batch b) _ _ _ (fun _ => rfl) b

/-- Table 0 of the launch holds the count words. -/
theorem tbl0 : Gen.tbl m 0 = countWords (batchOf m) := by
  show Gen.V m 0 main_v76 = _
  simp only [Gen.V, Gen.V0, hostOps0, hostOps0_1, hostOps0_2, hostOps0_3, hostOps0_4, List.flatten_cons, List.flatten_nil,
    List.append_nil, List.cons_append, List.nil_append]
  entry_read
  rfl

/-- Table 1 of the launch holds the start words. -/
theorem tbl1 : Gen.tbl m 1 = startWords (batchOf m) := by
  show Gen.V m 0 main_v78 = _
  simp only [Gen.V, Gen.V0, hostOps0, hostOps0_1, hostOps0_2, hostOps0_3, hostOps0_4, List.flatten_cons, List.flatten_nil,
    List.append_nil, List.cons_append, List.nil_append]
  entry_read
  simp only [StableHlo.TRef.ofBuf, StableHlo.TRef.toBuf, cast_eq]
  rfl

end Cert.KernelIdealProof
-- ==== Proof.WindowIdeal.lean ====
/- The words the kernel reads at a grid point, and that the window of rows they ask for lies inside the padded array. -/
module

public import proofs.«01_k».proof.Proof.StartsIdeal

@[expose] public section

set_option maxRecDepth 16384

noncomputable section

namespace Cert.KernelIdealProof

open Cert.KernelIdeal Cert.KernelIdeal.Gen Cert.PoolProof
open Idealize.ShloMosaic Idealize.ShloMosaic.TcCoe Idealize.SL.Sem

variable {F : FTy → Type} [FloatOps F] [Named F]
variable (m : (ℓ : Loc nD τ sig) → Buf (Elt F) ℓ)

/-- The row a window starts at, as the kernel computes it from a start word: the start rounded down to a multiple of eight. -/
theorem mult_eq : ∀ s : Fin 10001, k0_mult1 (BitVec.ofNat 32 s.val) = BitVec.ofNat 32 (s.val / 8 * 8) := by
  decide +kernel

/-- A start at most 10000 meets the side condition: its window of 520 rows ends inside the 10752 rows there are. -/
theorem chk_of_le (s : ℕ) (h : s ≤ 10000) : k0_chk1 (BitVec.ofNat 32 s) := by
  have e : (k0_mult1 (BitVec.ofNat 32 s)).toNat = s / 8 * 8 := by
    rw [mult_eq ⟨s, by omega⟩, BitVec.toNat_ofNat]
    exact Nat.mod_eq_of_lt (by show s / 8 * 8 < _; omega)
  have b : (k0_mult1 (BitVec.ofNat 32 s)).toNat + 520 ≤ 10752 := by omega
  refine ⟨by rw [e]; exact Nat.dvd_mul_left .., fun a => ?_, fun a => ?_⟩
  · match a with
    | ⟨0, _⟩ => exact b
    | ⟨1, _⟩ => show 0 + 256 ≤ 256; omega
  · match a with
    | ⟨0, _⟩ => exact b
    | ⟨1, _⟩ => show 0 + 1 ≤ 1; omega

/-- The graph a grid point works on. -/
def graphAt (i : grid0.Coords) : Fin 64 := ⟨(i 0).val, (i 0).isLt⟩

/-- The word the kernel reads off table 1 at a grid point is its graph's start. -/
theorem word1 (i : grid0.Coords) (X : IVec S64 32) :
    tbM0_1.view.readAt (Elt F) (Rect.unit (s := S64) (k0_off1 i) S1.size (k0_off1_inb i)).toLoadRect X
      (Shape.Idx.first (numel1_S1.symm ▸ Nat.one_pos)) = X (ix1 (graphAt i)) := by
  rw [View.readAt_apply]
  refine congrArg X ?_
  funext a
  match a with
  | ⟨0, _⟩ =>
    apply Fin.ext
    show k0_off1 i 0 + 1 * 0 = (i 0).val
    have : (i 0).val < 64 := (i 0).isLt
    show (BitVec.ofNat 32 (i 0).val).toNat + 1 * 0 = (i 0).val
    rw [BitVec.toNat_ofNat]; omega

/-- The pipeline's own side condition on the tables is empty: no window's index map reads one. -/
theorem ok : Gen.Ok m := trivial

/-- The side condition of the kernel's loads holds at every grid point. -/
theorem hyps : Gen.Hyps m (ok m) :=
  Hyps.of (m := m) fun c t => by
    show k0_chk1 _
    rw [tbl1]
    erw [word1]
    rw [startWords_at]
    exact chk_of_le _ (start_le ..)

end Cert.KernelIdealProof
-- ==== Proof.Frames.lean ====
/- The three programs run to their end, every semaphore back at zero and every argument as it was. -/
module

public import proofs.«01_k».proof.Defs
public import proofs.«01_k».proof.Proof.WindowKernel
public import proofs.«01_k».proof.Proof.WindowIdeal
public import proofs.«01_k».proof.Proof.Gen.ReferenceIdeal.Run
public import proofs.«01_k».proof.Proof.Gen.Pre_well_posed

@[expose] public section

set_option maxRecDepth 16384

namespace Cert.PoolProof

open Idealize.ShloMosaic Idealize.SL.Sem

/-- The kernel runs at the machine's floats. -/
theorem kernel_runs : Cert.quiescent_Kernel (hKernel := Cert.Kernel.Gen.facts) :=
  fun m g _ => Cert.Kernel.Gen.frame m g trivial (Cert.KernelProof.hyps m)

/-- The kernel runs over the extended reals. -/
theorem ideal_runs : Cert.quiescent_KernelIdeal (hKernelIdeal := Cert.KernelIdeal.Gen.facts) :=
  fun m g _ => Cert.KernelIdeal.Gen.frame m g trivial (Cert.KernelIdealProof.hyps m)

/-- The kernel runs over the extended reals on well-posed inputs. -/
theorem ideal_runs_pre : Cert.quiescent_KernelIdeal_pre_well_posed (hKernelIdeal := Cert.KernelIdeal.Gen.facts)
    (hPre_well_posed := Cert.Pre_well_posed.Gen.facts) :=
  fun m g _ => Cert.KernelIdeal.Gen.frame m g trivial (Cert.KernelIdealProof.hyps m)

/-- The reference runs over the extended reals. -/
theorem reference_runs : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run m g)

/-- The reference runs over the extended reals on well-posed inputs. -/
theorem reference_runs_pre : Cert.quiescent_ReferenceIdeal_pre_well_posed (hReferenceIdeal := Cert.ReferenceIdeal.Gen.facts)
    (hPre_well_posed := Cert.Pre_well_posed.Gen.facts) :=
  fun m g _ => reference_runs m g trivial

/-- The named mask constant stands for minus infinity. -/
theorem mask_preserved : Cert.preserves_Kernel_KernelIdeal :=
  IdealRules.named_const.statement Cert.KernelIdeal.κ "mask" .f32 0xCE6E6B28#32 ⊥ rfl

end Cert.PoolProof
-- ==== Proof.Block.lean ====
/- What one grid point computes from the window of rows it loads, as one function of the loaded values. -/
module

public import proofs.«01_k».proof.Proof.WindowIdeal
public import Idealize.ShloMosaic.Lib.Pointwise
public import Idealize.ShloMosaic.Lib.Pipeline.ValueKit
public import Idealize.ShloMosaic.Lib.Claim

@[expose] public section

set_option maxRecDepth 16384

noncomputable section

namespace Cert.KernelIdealProof

open Cert.KernelIdeal Cert.KernelIdeal.Gen
open Idealize.ShloMosaic Idealize.ShloMosaic.TcCoe Idealize.SL.Sem

/-- The place of the graph's first row inside its window, as the kernel computes it. -/
def shiftWord (v1 : BitVec 32) : BitVec 32 := Scalar.subi v1 (k0_mult1 v1)

/-- The queries one grid point computes. -/
def blkQ (v1 v3 : BitVec 32) (w0 : Vec Ideal S520x256 .f32) (w1 : Vec Ideal S520x1 .f32)
    (wq : Vec Ideal S256x256 .f32) (bq : Vec Ideal S1x256 .f32) : FVec Ideal S128x256 .f32 :=
  k0_pay7 (F := Ideal) (k0_pay2 w0) (k0_pay5 v1 v3 w1) k0_pay6 (constant S1x520 .f32 0x00000000#32) wq bq

/-- The keys one grid point computes. -/
def blkK (v1 v3 : BitVec 32) (w0 : Vec Ideal S520x256 .f32) (wk : Vec Ideal S256x256 .f32) (bk : Vec Ideal S1x256 .f32) :
    FVec Ideal S520x256 .f32 :=
  k0_pay8 (F := Ideal) (k0_pay2 w0) (k0_pay4 v1 v3) wk bk

/-- The values one grid point computes. -/
def blkV (v1 v3 : BitVec 32) (w0 : Vec Ideal S520x256 .f32) (wv : Vec Ideal S256x256 .f32) (bv : Vec Ideal S1x256 .f32) :
    FVec Ideal S520x256 .f32 :=
  k0_pay9 (F := Ideal) (k0_pay2 w0) (k0_pay4 v1 v3) wv bv

/-- What the attention, the output layer and the readout make of queries, keys, values and the key mask. -/
def blkOut (v1 v3 : BitVec 32) (w0 : Vec Ideal S520x256 .f32) (wv : Vec Ideal S256x256 .f32) (bv : Vec Ideal S1x256 .f32)
    (q : FVec Ideal S128x256 .f32) (kg vg : FVec Ideal S520x256 .f32) (mask : IVec S1x520 1)
    (wo : Vec Ideal S256x256 .f32) (bo : Vec Ideal S1x256 .f32) (wr : Vec Ideal S1x128 .f32) (br : Vec Ideal S1x256 .f32) :
    FVec Ideal S1x1x256 .f32 :=
  k0_pay1 (F := Ideal) q
    (k0_pay11 (F := Ideal) v3 (shiftWord v1) (k0_pay2 w0) (k0_pay4 v1 v3) q kg wv bv)
    (k0_pay15 (F := Ideal) (k0_pay12 (k0_pay2 w0) (k0_pay4 v1 v3) wv bv) (k0_pay13 v3 (shiftWord v1) q kg) (k0_pay14 v3 (shiftWord v1) q kg))
    (k0_pay16 (F := Ideal) q kg vg mask) (k0_pay17 (F := Ideal) vg) (k0_pay18 (F := Ideal) q kg mask)
    (constant S128x64 .f32 0x00000000#32) wo bo wr br

/-- What one grid point writes, from its two words, its window of rows and scores and the weights. -/
def blk (v1 v3 : BitVec 32) (w0 : Vec Ideal S520x256 .f32) (w1 : Vec Ideal S520x1 .f32)
    (wq : Vec Ideal S256x256 .f32) (bq : Vec Ideal S1x256 .f32) (wk : Vec Ideal S256x256 .f32) (bk : Vec Ideal S1x256 .f32)
    (wv : Vec Ideal S256x256 .f32) (bv : Vec Ideal S1x256 .f32) (wo : Vec Ideal S256x256 .f32) (bo : Vec Ideal S1x256 .f32)
    (wr : Vec Ideal S1x128 .f32) (br : Vec Ideal S1x256 .f32) : FVec Ideal S1x1x256 .f32 :=
  blkOut v1 v3 w0 wv bv (blkQ v1 v3 w0 w1 wq bq) (blkK v1 v3 w0 wk bk) (blkV v1 v3 w0 wv bv)
    (k0_pay10 (F := Ideal) v3 (shiftWord v1)) wo bo wr br

/-- The row of the padded array at a place of a window, for a graph starting at node `s`. -/
def rowAt (s : ℕ) (j : Fin 520) : Fin 10752 := ⟨min (s / 8 * 8 + j.val) 10751, by omega⟩

/-- A window of rows. -/
def winX (X : FVec Ideal S10752x256 .f32) (s : ℕ) : FVec Ideal S520x256 .f32 := fun y => X (ix2 (rowAt s (y 0)) (y 1))

/-- A window of scores. -/
def winS (X : FVec Ideal S10752x1 .f32) (s : ℕ) : FVec Ideal S520x1 .f32 := fun y => X (ix2 (rowAt s (y 0)) (y 1))

/-- The word the kernel reads off table 0 at a grid point is its graph's count. -/
theorem word0 (i : grid0.Coords) (X : IVec S64 32) :
    tbM0_0.view.readAt (Elt Ideal) (Rect.unit (s := S64) (k0_off1 i) S1.size (k0_off1_inb i)).toLoadRect X
      (Shape.Idx.first (numel1_S1.symm ▸ Nat.one_pos)) = X (ix1 (graphAt i)) := by
  rw [View.readAt_apply]
  refine congrArg X ?_
  funext a
  match a with
  | ⟨0, _⟩ =>
    apply Fin.ext
    show k0_off1 i 0 + 1 * 0 = (i 0).val
    have : (i 0).val < 64 := (i 0).isLt
    show (BitVec.ofNat 32 (i 0).val).toNat + 1 * 0 = (i 0).val
    rw [BitVec.toNat_ofNat]; omega

/-- The launch's window starts at the last multiple of eight up to the run's start. -/
theorem off_of_start (s : ℕ) (hs : s ≤ 10000) : (k0_mult1 (BitVec.ofNat 32 s)).toNat = s / 8 * 8 := by
  rw [mult_eq ⟨s, by omega⟩, BitVec.toNat_ofNat]
  exact Nat.mod_eq_of_lt (by show s / 8 * 8 < _; omega)

/-- The rows a point loads are the window at its graph's start. -/
theorem ld_rows (X : FVec Ideal S10752x256 .f32) (w : BitVec 32) (s : ℕ) (hw : w = BitVec.ofNat 32 s) (hs : s ≤ 10000) (h) :
    View.ld (Val := Elt Ideal) (e' := .f32) X (Rect.unit (s := S10752x256) (k0_off2 w) ![520, 256] h) = winX X s := by
  subst hw
  funext y
  refine congrArg X ?_
  have e := off_of_start s hs
  have h0 : (y 0).val < 520 := (y 0).isLt
  funext a
  match a with
  | ⟨0, _⟩ =>
    apply Fin.ext
    show (k0_mult1 (BitVec.ofNat 32 s)).toNat + 1 * (y 0).val = min (s / 8 * 8 + (y 0).val) 10751
    omega
  | ⟨1, _⟩ =>
    apply Fin.ext
    show 0 + 1 * (y 1).val = (y 1).val
    omega

/-- The scores a point loads are the window at its graph's start. -/
theorem ld_scores (X : FVec Ideal S10752x1 .f32) (w : BitVec 32) (s : ℕ) (hw : w = BitVec.ofNat 32 s) (hs : s ≤ 10000) (h) :
    View.ld (Val := Elt Ideal) (e' := .f32) X (Rect.unit (s := S10752x1) (k0_off3 w) ![520, 1] h) = winS X s := by
  subst hw
  funext y
  refine congrArg X ?_
  have e := off_of_start s hs
  have h0 : (y 0).val < 520 := (y 0).isLt
  funext a
  match a with
  | ⟨0, _⟩ =>
    apply Fin.ext
    show (k0_mult1 (BitVec.ofNat 32 s)).toNat + 1 * (y 0).val = min (s / 8 * 8 + (y 0).val) 10751
    omega
  | ⟨1, _⟩ =>
    apply Fin.ext
    show 0 + 1 * (y 1).val = (y 1).val
    omega

set_option maxHeartbeats 1600000 in
/-- What the program leaves at a grid point whose words are the graph's start and count. -/
theorem block_out (c : Dev nD) (i : grid0.Coords) (a0 : Memref sig .tc .vmem S10752x256 .f32) (h0 : a0.IsWhole) (a1 : Memref sig .tc .vmem S10752x1 .f32) (h1 : a1.IsWhole) (a2 : Memref sig .tc .vmem S256x256 .f32) (h2 : a2.IsWhole) (a3 : Memref sig .tc .vmem S1x256 .f32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S256x256 .f32) (h8 : a8.IsWhole) (a9 : Memref sig .tc .vmem S1x256 .f32) (h9 : a9.IsWhole) (a10 : Memref sig .tc .vmem S1x128 .f32) (h10 : a10.IsWhole) (a11 : Memref sig .tc .vmem S1x256 .f32) (h11 : a11.IsWhole) (a12 : Memref sig .tc .vmem S1x1x256 .f32) (h12 : a12.IsWhole)
    (x0 : Vec Ideal S10752x256 .f32) (x1 : Vec Ideal S10752x1 .f32) (x2 : Vec Ideal S256x256 .f32) (x3 : Vec Ideal S1x256 .f32) (x4 : Vec Ideal S256x256 .f32) (x5 : Vec Ideal S1x256 .f32) (x6 : Vec Ideal S256x256 .f32) (x7 : Vec Ideal S1x256 .f32) (x8 : Vec Ideal S256x256 .f32) (x9 : Vec Ideal S1x256 .f32) (x10 : Vec Ideal S1x128 .f32) (x11 : Vec Ideal S1x256 .f32) (T0 : TbBuf0 (F := Ideal) c tbM0_0) (T1 : TbBuf0 (F := Ideal) c tbM0_1) (hw)
    (s : ℕ) (hs : s ≤ 10000) (v3 : BitVec 32) (e1 : (T1 : IVec S64 32) (ix1 (graphAt i)) = BitVec.ofNat 32 s)
    (e0 : (T0 : IVec S64 32) (ix1 (graphAt i)) = v3) :
    out0_A_12 c i a0 h0 a1 h1 a2 h2 a3 h3 a4 h4 a5 h5 a6 h6 a7 h7 a8 h8 a9 h9 a10 h10 a11 h11 a12 h12 x0 x1 x2 x3 x4 x5 x6 x7 x8 x9 x10 x11 T0 T1 hw
      = blk (BitVec.ofNat 32 s) v3 (winX x0 s) (winS x1 s) x2 x3 x4 x5 x6 x7 x8 x9 x10 x11 := by
  funext y
  have f1 := (word1 (F := Ideal) i T1).trans e1
  have f0 := (word0 i T0).trans e0
  have r0 := ld_rows x0 _ s f1 hs hw.2.1
  have r1 := ld_scores x1 _ s f1 hs hw.2.2
  rw [← f1, ← f0, ← r0, ← r1]
  frame_out
  rfl

end Cert.KernelIdealProof
-- ==== Proof.Spec.lean ====
/- The mathematics both programs compute for one graph: which of its nodes are kept and in which order, the attention of
   the kept nodes over all of its nodes, and the readout. A program keeps a graph's nodes among places that are not nodes;
   the lemmas here say that those places do not count. Nothing here names the programs. -/
module

public import proofs.«01_k».proof.Proof.Folds

@[expose] public section

set_option maxRecDepth 16384

noncomputable section

namespace Cert.PoolProof

open Idealize.ShloMosaic

/-- The score a node must exceed to be kept. -/
def floorScore : EReal := Ideal.ofBits .f32 0xCCBEBC20#32

/-- The bit pattern of minus infinity. -/
theorem bits_bot : Ideal.ofBits .f32 0xFF800000#32 = ⊥ := by simp [Ideal.ofBits, Ideal.ieee]

/-- The pattern `0x3E000000` is one eighth. -/
theorem bits_eighth : Ideal.ofBits .f32 0x3E000000#32 = ((1 / 8 : ℝ) : EReal) := by
  simp [Ideal.ofBits, Ideal.ieee, -EReal.coe_mul]; norm_num

/-- The pattern `0x42800000` is sixty-four. -/
theorem bits_64 : Ideal.ofBits .f32 0x42800000#32 = ((64 : ℝ) : EReal) := by
  simp [Ideal.ofBits, Ideal.ieee, -EReal.coe_mul]; norm_num

/-- The kept-score floor is the number minus 10^8. -/
theorem floorScore_eq : floorScore = ((-100000000 : ℝ) : EReal) := by
  unfold floorScore
  simp [Ideal.ofBits, Ideal.ieee, -EReal.coe_mul]; norm_num

/-- The pattern of the score written where there is no node is minus 10^9. -/
theorem bits_fill : Ideal.ofBits .f32 0xCE6E6B28#32 = ((-1000000000 : ℝ) : EReal) := by
  simp [Ideal.ofBits, Ideal.ieee, -EReal.coe_mul]; norm_num

/-- The score written where there is no node is below the floor. -/
theorem fill_le : Ideal.ofBits .f32 0xCE6E6B28#32 ≤ floorScore := by
  rw [bits_fill, floorScore_eq, EReal.coe_le_coe_iff]; norm_num

/-- The floor is below zero. -/
theorem floor_lt_zero : floorScore < 0 := by
  rw [floorScore_eq, ← EReal.coe_zero, EReal.coe_lt_coe_iff]; norm_num

/-- Dividing by the root of sixty-four is multiplying by one eighth. -/
theorem div_sqrt_64 (x : EReal) : Ideal.div x (Ideal.sqrt (Ideal.ofBits .f32 0x42800000#32)) = x * Ideal.ofBits .f32 0x3E000000#32 := by
  have h8 : Real.sqrt 64 = 8 := by
    rw [show (64 : ℝ) = 8 ^ 2 by norm_num]; exact Real.sqrt_sq (by norm_num)
  have hs : Ideal.sqrt ((64 : ℝ) : EReal) = ((8 : ℝ) : EReal) := by
    show (if (64 : ℝ) < 0 then ⊥ else ((Real.sqrt 64 : ℝ) : EReal)) = _
    rw [if_neg (by norm_num), h8]
  rw [bits_64, bits_eighth, hs]
  unfold Ideal.div
  rw [if_neg fun h => by rw [← EReal.coe_zero, EReal.coe_eq_coe_iff] at h; norm_num at h, ← EReal.coe_inv]
  congr 2
  norm_num

/-- The nodes of key `b`. -/
abbrev Node {N : ℕ} (nb : Fin N → ℤ) (b : ℕ) : Type := {i : Fin N // nb i = (b : ℤ)}

section Sums

variable {J J' : Type} [Fintype J] [Fintype J'] [DecidableEq J']

/-- A sum over places is the sum over nodes when the other places hold zero. -/
theorem sum_places (e : J → J') (he : Function.Injective e) (f : J' → EReal) (h : ∀ y, (∀ j, e j ≠ y) → f y = 0) :
    ∑ y, f y = ∑ j, f (e j) := by
  rw [← Finset.sum_image (f := f) (s := Finset.univ) (g := e) fun a _ b _ h => he h]
  refine (Finset.sum_subset (Finset.subset_univ _) fun y _ hy => h y fun j hj => hy ?_).symm
  exact Finset.mem_image.2 ⟨j, Finset.mem_univ _, hj⟩

/-- A maximum over places is the maximum over nodes when the other places hold minus infinity. -/
theorem max_places (e : J → J') (f : J' → EReal) (h : ∀ y, (∀ j, e j ≠ y) → f y = ⊥) :
    Finset.univ.fold max ⊥ f = Finset.univ.fold max ⊥ fun j => f (e j) := by
  show Finset.univ.sup f = Finset.univ.sup fun j => f (e j)
  refine le_antisymm (Finset.sup_le fun y _ => ?_) (Finset.sup_le fun j _ => Finset.le_sup (f := f) (Finset.mem_univ _))
  by_cases hy : ∃ j, e j = y
  · obtain ⟨j, rfl⟩ := hy
    exact Finset.le_sup (f := fun j => f (e j)) (Finset.mem_univ j)
  · rw [h y fun j hj => hy ⟨j, hj⟩]; exact bot_le

/-- The weighted mean of `v` by the exponentials of `l`, the largest `l` taken off first. -/
def soft (l v : J → EReal) : EReal :=
  ∑ j, Ideal.div (Ideal.exp (l j - Finset.univ.fold max ⊥ l)) (∑ k, Ideal.exp (l k - Finset.univ.fold max ⊥ l)) * v j

/-- Places with logit minus infinity and value zero do not count in the mean. -/
theorem soft_places (e : J → J') (he : Function.Injective e) (l v : J' → EReal)
    (hl : ∀ y, (∀ j, e j ≠ y) → l y = ⊥) (hv : ∀ y, (∀ j, e j ≠ y) → v y = 0) :
    soft l v = soft (fun j => l (e j)) (fun j => v (e j)) := by
  unfold soft
  rw [← max_places e l hl, sum_places e he (fun y => Ideal.exp (l y - _)) fun y hy => ?_]
  · exact sum_places e he _ fun y hy => by rw [hv y hy, mul_zero]
  · rw [hl y hy, EReal.bot_sub, Ideal.exp_bot]

end Sums

section Keep

variable {J J' : Type} [Fintype J] [Fintype J']

/-- How many scores exceed the score of `j`. -/
def rank (s : J → EReal) (j : J) : ℕ := (Finset.univ.filter fun i => s j < s i).card

/-- Node `j` is kept as number `k`: its score exceeds the floor and exactly `k` scores exceed it. -/
def Kept (s : J → EReal) (k : ℕ) (j : J) : Prop := floorScore < s j ∧ rank s j = k

open Classical in
/-- The `l`-th feature of the node kept as number `k`, weighted by the hyperbolic tangent of its score; zero when no node is. -/
def pooled (s : J → EReal) (x : J → EReal) (k : ℕ) : EReal := ∑ j, if Kept s k j then x j * Ideal.tanh (s j) else 0

/-- A larger score has a smaller rank. -/
theorem rank_lt (s : J → EReal) {i j : J} (h : s i < s j) : rank s j < rank s i := by
  refine Finset.card_lt_card ⟨fun y hy => ?_, fun hs => ?_⟩
  · simp only [Finset.mem_filter, Finset.mem_univ, true_and] at hy ⊢
    exact h.trans hy
  · have := hs (show j ∈ _ by simp [h])
    simp at this

/-- Equal ranks mean equal scores. -/
theorem score_eq_of_rank (s : J → EReal) {i j : J} (h : rank s i = rank s j) : s i = s j := by
  rcases lt_trichotomy (s i) (s j) with hl | he | hl
  · have := rank_lt s hl; omega
  · exact he
  · have := rank_lt s hl; omega

variable [DecidableEq J'] (e : J → J') (he : Function.Injective e) (f : J' → EReal) (h : ∀ y, (∀ j, e j ≠ y) → f y ≤ floorScore)
include he h

/-- A place above the floor is a node. -/
theorem node_of_above (y : J') (hy : floorScore < f y) : ∃ j, e j = y := by
  by_contra hn
  exact absurd (h y fun j hj => hn ⟨j, hj⟩) (not_le.2 hy)

/-- Above the floor, the rank among the places is the rank among the nodes. -/
theorem rank_places (j : J) (hj : floorScore < f (e j)) : rank f (e j) = rank (fun j => f (e j)) j := by
  unfold rank
  rw [← Finset.card_image_of_injective _ he]
  congr 1
  ext y
  simp only [Finset.mem_filter, Finset.mem_univ, true_and, Finset.mem_image]
  constructor
  · intro hy
    obtain ⟨i, rfl⟩ := node_of_above e he f h y (hj.trans hy)
    exact ⟨i, hy, rfl⟩
  · rintro ⟨i, hi, rfl⟩; exact hi

/-- Kept among the places is kept among the nodes. -/
theorem kept_places (k : ℕ) (j : J) : Kept f k (e j) ↔ Kept (fun j => f (e j)) k j := by
  unfold Kept
  constructor
  · rintro ⟨a, b⟩; exact ⟨a, (rank_places e he f h j a).symm.trans b⟩
  · rintro ⟨a, b⟩; exact ⟨a, (rank_places e he f h j a).trans b⟩

open Classical in
/-- The pooled feature is the same summed over places. -/
theorem pooled_places (x : J' → EReal) (k : ℕ) : pooled f x k = pooled (fun j => f (e j)) (fun j => x (e j)) k := by
  unfold pooled
  rw [sum_places e he]
  · exact Finset.sum_congr rfl fun j _ => if_congr (kept_places e he f h k j) rfl rfl
  · intro y hy
    rw [if_neg fun hk => ?_]
    obtain ⟨j, hj⟩ := node_of_above e he f h y hk.1
    exact hy j hj

end Keep

section Pick

variable {J : Type} [Fintype J] [DecidableEq J]

/-- When the place `j` is the only one kept as number `k`, the pooled feature is its own. -/
theorem pooled_some (s x : J → EReal) (k : ℕ) (j : J) (hj : Kept s k j) (hu : ∀ i, Kept s k i → i = j) :
    pooled s x k = x j * Ideal.tanh (s j) := by
  unfold pooled
  rw [Finset.sum_eq_single j, if_pos hj]
  · intro i _ hi; exact if_neg fun hk => hi (hu i hk)
  · intro hn; exact absurd (Finset.mem_univ _) hn

/-- When no place is kept as number `k`, the pooled feature is zero. -/
theorem pooled_none (s x : J → EReal) (k : ℕ) (hn : ∀ i, ¬ Kept s k i) : pooled s x k = 0 :=
  Finset.sum_eq_zero fun i _ => if_neg (hn i)

/-- Scores above the floor all different, at most one place is kept as number `k`. -/
theorem kept_unique (s : J → EReal) (hs : ∀ i j, floorScore < s i → s i = s j → i = j) (k : ℕ) (i j : J)
    (hi : Kept s k i) (hj : Kept s k j) : i = j :=
  hs i j hi.1 (score_eq_of_rank s (hi.2.trans hj.2.symm))

/-- Picking the places of rank `k` by zero-one weights, and keeping what is picked when the picked score exceeds the
    floor, gives the pooled feature. -/
theorem pick (s x : J → EReal) (hs : ∀ i j, floorScore < s i → s i = s j → i = j) (k : ℕ) :
    (∑ i, (if rank s i = k then 1 else 0) * x i) *
      (Ideal.tanh (∑ i, (if rank s i = k then 1 else 0) * s i) *
        (if floorScore < ∑ i, (if rank s i = k then 1 else 0) * s i then 1 else 0)) = pooled s x k := by
  by_cases hk : ∃ j, Kept s k j
  · obtain ⟨j, hj⟩ := hk
    have one : ∀ z : J → EReal, ∑ i, (if rank s i = k then 1 else 0) * z i = z j := fun z => by
      rw [Finset.sum_eq_single j, if_pos hj.2, one_mul]
      · intro i _ hi
        rw [if_neg fun hr => hi (hs j i hj.1 (score_eq_of_rank s (hj.2.trans hr.symm))).symm, zero_mul]
      · intro hn; exact absurd (Finset.mem_univ _) hn
    rw [one, one, if_pos hj.1, mul_one, pooled_some s x k j hj fun i hi => kept_unique s hs k i j hi hj]
  · have hn : ∀ i, ¬ Kept s k i := fun i hi => hk ⟨i, hi⟩
    rw [pooled_none s x k hn]
    by_cases hr : ∃ j, rank s j = k
    · obtain ⟨j, hj⟩ := hr
      have le : ∀ i, rank s i = k → s i ≤ floorScore := fun i hi => not_lt.1 fun hl => hn i ⟨hl, hi⟩
      rw [if_neg, mul_zero, mul_zero]
      refine not_lt.2 ?_
      have hj' := Finset.mem_univ j
      rw [← Finset.add_sum_erase _ _ hj', if_pos hj, one_mul]
      refine (add_le_add (le j hj) (Finset.sum_nonpos fun i _ => ?_)).trans (add_zero _).le
      split_ifs with hi
      · rw [one_mul]; exact (le i hi).trans floor_lt_zero.le
      · rw [zero_mul]
    · have hz : ∀ z : J → EReal, ∑ i, (if rank s i = k then 1 else 0) * z i = 0 := fun z =>
        Finset.sum_eq_zero fun i _ => by rw [if_neg fun hi => hr ⟨i, hi⟩, zero_mul]
      rw [hz, zero_mul]

end Pick

section Sorted

variable {N : ℕ}

/-- In a decreasing arrangement `σ` of the places, a place kept as number `k` stands at `k`. -/
theorem kept_at (s : Fin N → EReal) (hs : ∀ i j, floorScore < s i → s i = s j → i = j) (σ : Fin N → Fin N)
    (hσ : Function.Bijective σ) (ho : ∀ a b, a ≤ b → s (σ b) ≤ s (σ a)) (k : Fin N) (j : Fin N) :
    Kept s k.val j ↔ floorScore < s (σ k) ∧ σ k = j := by
  have key : ∀ a : Fin N, floorScore < s (σ a) → rank s (σ a) = a.val := by
    intro a ha
    unfold rank
    have : (Finset.univ.filter fun i => s (σ a) < s i) = (Finset.univ.filter fun c : Fin N => c < a).image σ := by
      ext i
      simp only [Finset.mem_filter, Finset.mem_univ, true_and, Finset.mem_image]
      constructor
      · intro hi
        obtain ⟨c, rfl⟩ := hσ.2 i
        exact ⟨c, not_le.1 fun hc => absurd (ho a c hc) (not_le.2 hi), rfl⟩
      · rintro ⟨c, hc, rfl⟩
        refine lt_of_le_of_ne (ho c a hc.le) fun he => ?_
        exact hc.ne (hσ.1 (hs _ _ ha he)).symm
    rw [this, Finset.card_image_of_injective _ hσ.1]
    refine Eq.trans (congrArg Finset.card ?_) (Fin.card_Iio a)
    ext c
    rw [Finset.mem_filter, Finset.mem_Iio]
    exact ⟨fun hc => hc.2, fun hc => ⟨Finset.mem_univ _, hc⟩⟩
  constructor
  · rintro ⟨hf, hr⟩
    obtain ⟨a, rfl⟩ := hσ.2 j
    have := key a hf
    have hak : a = k := Fin.ext (this.symm.trans hr)
    subst hak
    exact ⟨hf, rfl⟩
  · rintro ⟨hf, rfl⟩
    exact ⟨hf, key k hf⟩

/-- In a decreasing arrangement of the places, the pooled feature is the `k`-th place's, when its score exceeds the floor. -/
theorem pooled_sorted (s x : Fin N → EReal) (hs : ∀ i j, floorScore < s i → s i = s j → i = j) (σ : Fin N → Fin N)
    (hσ : Function.Bijective σ) (ho : ∀ a b, a ≤ b → s (σ b) ≤ s (σ a)) (k : Fin N) :
    x (σ k) * Ideal.tanh (s (σ k)) * (if floorScore < s (σ k) then 1 else 0) = pooled s x k.val := by
  by_cases hk : floorScore < s (σ k)
  · rw [if_pos hk, mul_one, pooled_some s x k.val (σ k) ((kept_at s hs σ hσ ho k _).2 ⟨hk, rfl⟩)
      fun i hi => ((kept_at s hs σ hσ ho k i).1 hi).2.symm]
  · rw [if_neg hk, mul_zero, pooled_none]
    exact fun i hi => hk ((kept_at s hs σ hσ ho k i).1 hi).1

end Sorted

section Layer

/-- Column `e` of head `h`. -/
def col (h : Fin 4) (e : Fin 64) : Fin 256 := ⟨h.val * 64 + e.val, by omega⟩

/-- A column's head. -/
def headOf (l : Fin 256) : Fin 4 := ⟨l.val / 64, by omega⟩

variable {J : Type} [Fintype J]

/-- One query's attention over the nodes, at column `l`: the column's head compares query and keys. -/
def attend (q : Fin 256 → EReal) (K V : J → Fin 256 → EReal) (l : Fin 256) : EReal :=
  soft (fun j => (∑ e, q (col (headOf l) e) * K j (col (headOf l) e)) * Ideal.ofBits .f32 0x3E000000#32) (fun j => V j l)

/-- A query row after the attention is added. -/
def mixed (q : Fin 256 → EReal) (K V : J → Fin 256 → EReal) (l : Fin 256) : EReal := q l + attend q K V l

/-- A query row after the output layer. -/
def layered (q : Fin 256 → EReal) (K V : J → Fin 256 → EReal) (wo : Fin 256 → Fin 256 → EReal) (bo : Fin 256 → EReal)
    (l : Fin 256) : EReal :=
  mixed q K V l + max (∑ e, mixed q K V e * wo e l + bo l) 0

/-- A dense layer of a row. -/
def dense (x : Fin 256 → EReal) (w : Fin 256 → Fin 256 → EReal) (b : Fin 256 → EReal) (l : Fin 256) : EReal :=
  ∑ e, x e * w e l + b l

/-- The query of the node kept as number `k`. -/
def query (s : J → EReal) (x : J → Fin 256 → EReal) (wq : Fin 256 → Fin 256 → EReal) (bq : Fin 256 → EReal) (k : ℕ) :
    Fin 256 → EReal :=
  dense (fun e => pooled s (fun j => x j e) k) wq bq

/-- What one graph's nodes, with scores `s` and features `x`, come to. -/
def graphOut (s : J → EReal) (x : J → Fin 256 → EReal) (wq : Fin 256 → Fin 256 → EReal) (bq : Fin 256 → EReal)
    (wk : Fin 256 → Fin 256 → EReal) (bk : Fin 256 → EReal) (wv : Fin 256 → Fin 256 → EReal) (bv : Fin 256 → EReal)
    (wo : Fin 256 → Fin 256 → EReal) (bo : Fin 256 → EReal) (wr : Fin 100 → EReal) (br : EReal) (l : Fin 256) : EReal :=
  (∑ k : Fin 100, wr k * layered (query s x wq bq k.val) (fun j => dense (x j) wk bk) (fun j => dense (x j) wv bv) wo bo l) + br

end Layer

end Cert.PoolProof
-- ==== Proof.BlockRead.lean ====
/- The zero-one numbers, masks and scores of one grid point's block, read. -/
module

public import proofs.«01_k».proof.Proof.Block
public import proofs.«01_k».proof.Proof.Spec
public import Idealize.ShloMosaic.Lib.WordCmp

@[expose] public section

set_option maxRecDepth 16384

noncomputable section

namespace Cert.KernelIdealProof

open Cert.KernelIdeal Cert.KernelIdeal.Gen Cert.PoolProof
open Idealize.ShloMosaic Idealize.ShloMosaic.TcCoe Idealize.SL.Sem

/-- A truth bit, read as a signed word and then as a number, is one or zero. -/
theorem flag_read (p : Bool) : FloatOps.sitofp (F := Ideal) FTy.f32 (BitVec.setWidth 32 (BitVec.ofBool p)) = if p then (1 : EReal) else 0 := by
  show (((((BitVec.setWidth 32 (BitVec.ofBool p)).toInt : ℤ) : ℝ)) : EReal) = _
  cases p <;> simp

/-- A small number's word, read as a signed word and then as a number, is the number. -/
theorem num_read (k : ℕ) (hk : k < 2 ^ 31) : FloatOps.sitofp (F := Ideal) FTy.f32 (BitVec.ofNat 32 k) = ((k : ℝ) : EReal) := by
  show (((((BitVec.ofNat 32 k).toInt : ℤ) : ℝ)) : EReal) = _
  rw [WordCmp.toInt_ofNat_of_lt hk]
  simp

/-- A count of truths is the sum of their numbers. -/
theorem count_read {J : Type} [Fintype J] (p : J → Prop) [DecidablePred p] :
    ∑ j, (if p j then (1 : EReal) else 0) = (((Finset.univ.filter p).card : ℝ) : EReal) := by
  rw [Finset.sum_boole]
  simp

/-- The word of the graph's place inside its window is the place. -/
theorem shift_read (s : ℕ) (hs : s < 10001) : shiftWord (BitVec.ofNat 32 s) = BitVec.ofNat 32 (s % 8) := by
  unfold shiftWord
  rw [mult_eq ⟨s, hs⟩]
  show BitVec.ofNat 32 s - BitVec.ofNat 32 (s / 8 * 8) = _
  apply BitVec.eq_of_toNat_eq
  rw [BitVec.toNat_sub, BitVec.toNat_ofNat, BitVec.toNat_ofNat, BitVec.toNat_ofNat]
  omega

/-- The key mask: one on the graph's rows. -/
theorem mask_read (n r : ℕ) (hr : r < 8) (hn : n ≤ 10000) (j : Fin 520) :
    k0_pay10 (F := Ideal) (BitVec.ofNat 32 n) (BitVec.ofNat 32 r) (ix2 0 j) = BitVec.ofBool (decide (r ≤ j.val ∧ j.val < r + n)) := by
  pointwise [k0_pay10]
  rw [show Scalar.addi (BitVec.ofNat 32 r) (BitVec.ofNat 32 n) = BitVec.ofNat 32 (r + n) from WordCmp.addi_ofNat r n,
    WordCmp.cmpi_sge_ofNat (by omega) (by omega), WordCmp.cmpi_slt_ofNat (by omega) (by omega), WordCmp.andi_ofBool,
    Bool.decide_and]

/-- The row mask: one on the graph's rows. -/
theorem rowmask_read (s n : ℕ) (hs : s < 10001) (hn : n ≤ 10000) (j : Fin 520) :
    k0_pay3 (F := Ideal) (BitVec.ofNat 32 s) (BitVec.ofNat 32 n) (ix2 j 0) =
      BitVec.ofBool (decide (s % 8 ≤ j.val ∧ j.val < s % 8 + n)) := by
  refine Eq.trans ?_ (mask_read n (s % 8) (Nat.mod_lt _ (by norm_num)) hn j)
  rw [← shift_read s hs]
  pointwise [k0_pay10, k0_pay3]
  rfl

/-- The named mask constant is minus infinity. -/
theorem mask_bot : Named.named (F := Ideal) (φ := .f32) κ "mask" 3463342888#32 = ⊥ := rfl

/-- The masked score of a row: minus infinity off the graph's rows. -/
theorem score_read (s n : ℕ) (hs : s < 10001) (hn : n ≤ 10000) (w1 : Vec Ideal S520x1 .f32) (j : Fin 520) :
    k0_pay5 (F := Ideal) (BitVec.ofNat 32 s) (BitVec.ofNat 32 n) w1 (ix2 j 0) =
      if s % 8 ≤ j.val ∧ j.val < s % 8 + n then w1 (ix2 j 0) else ⊥ := by
  pointwise [k0_pay5]
  rw [mask_bot, rowmask_read s n hs hn, WordCmp.select_decide]

/-- A key: the row's dense layer on the graph's rows, zero elsewhere. -/
theorem key_read (s n : ℕ) (hs : s < 10001) (hn : n ≤ 10000) (w0 : Vec Ideal S520x256 .f32) (w : Vec Ideal S256x256 .f32)
    (b : Vec Ideal S1x256 .f32) (j : Fin 520) (l : Fin 256) :
    blkK (BitVec.ofNat 32 s) (BitVec.ofNat 32 n) w0 w b (ix2 j l) =
      if s % 8 ≤ j.val ∧ j.val < s % 8 + n then dense (fun e => w0 (ix2 j e)) (fun e l => w (ix2 e l)) (fun l => b (ix2 0 l)) l
      else 0 := by
  pointwise [blkK, k0_pay8, k0_pay2, k0_pay4]
  rw [rowmask_read s n hs hn, flag_read]
  unfold dense
  by_cases h : s % 8 ≤ j.val ∧ j.val < s % 8 + n
  · rw [if_pos h, if_pos (by simpa using h), mul_one]
  · rw [if_neg h, if_neg (by simpa using h), mul_zero]

/-- A value: the row's dense layer on the graph's rows, zero elsewhere. -/
theorem value_read (s n : ℕ) (hs : s < 10001) (hn : n ≤ 10000) (w0 : Vec Ideal S520x256 .f32) (w : Vec Ideal S256x256 .f32)
    (b : Vec Ideal S1x256 .f32) (j : Fin 520) (l : Fin 256) :
    blkV (BitVec.ofNat 32 s) (BitVec.ofNat 32 n) w0 w b (ix2 j l) =
      if s % 8 ≤ j.val ∧ j.val < s % 8 + n then dense (fun e => w0 (ix2 j e)) (fun e l => w (ix2 e l)) (fun l => b (ix2 0 l)) l
      else 0 := by
  pointwise [blkV, k0_pay9, k0_pay2, k0_pay4]
  rw [rowmask_read s n hs hn, flag_read]
  unfold dense
  by_cases h : s % 8 ≤ j.val ∧ j.val < s % 8 + n
  · rw [if_pos h, if_pos (by simpa using h), mul_one]
  · rw [if_neg h, if_neg (by simpa using h), mul_zero]

/-- A query over the masked scores `f`: the dense layer of the pooled rows. -/
theorem query_read (v1 v3 : BitVec 32) (w0 : Vec Ideal S520x256 .f32) (w1 : Vec Ideal S520x1 .f32) (wq : Vec Ideal S256x256 .f32)
    (bq : Vec Ideal S1x256 .f32) (f : Fin 520 → EReal) (hf : ∀ j, k0_pay5 (F := Ideal) v1 v3 w1 (ix2 j 0) = f j)
    (hs : ∀ i j, floorScore < f i → f i = f j → i = j) (k : Fin 128) (l : Fin 256) :
    blkQ v1 v3 w0 w1 wq bq (ix2 k l) =
      query f (fun j e => w0 (ix2 j e)) (fun e l => wq (ix2 e l)) (fun l => bq (ix2 0 l)) k.val l := by
  have eye : ∀ x i : Fin 520, FloatOps.sitofp (F := Ideal) FTy.f32 (BitVec.setWidth 32 (IntOp.cmpi .eq (BitVec.ofNat 32 x.val)
      (BitVec.ofNat 32 i.val))) = if x = i then (1 : EReal) else 0 := fun x i => by
    rw [WordCmp.cmpi_eq_ofNat (by omega) (by omega), flag_read]
    simp [Fin.ext_iff]
  have col : ∀ i : Fin 520, ∑ y, f y * (if y = i then (1 : EReal) else 0) = f i := fun i => by
    rw [Finset.sum_eq_single i, if_pos rfl, mul_one]
    · intro y _ hy; rw [if_neg hy, mul_zero]
    · intro hn; exact absurd (Finset.mem_univ _) hn
  have rk : ∀ i : Fin 520, ∑ x, (if f i < f x then (1 : EReal) else 0) * (1 - if x = i then 1 else 0) = ((rank f i : ℝ) : EReal) := fun i => by
    refine Eq.trans (Finset.sum_congr rfl fun x _ => ?_) (count_read fun x => f i < f x)
    by_cases h : f i < f x
    · rw [if_pos h, if_neg (fun e => by rw [e] at h; exact lt_irrefl _ h), sub_zero, mul_one]
    · rw [if_neg h, zero_mul]
  have num : ∀ a b : ℕ, ((a : ℝ) : EReal) = ((b : ℝ) : EReal) ↔ a = b := fun a b => by
    rw [EReal.coe_eq_coe_iff, Nat.cast_inj]
  generalize hz : k0_pay5 (F := Ideal) v1 v3 w1 = z at hf
  unfold blkQ
  rw [hz]
  pointwise [k0_pay7, k0_pay6, k0_pay2]
  simp only [hf, eye, col, flag_read, decide_eq_true_eq, rk, num_read k.val (by omega), num]
  unfold query dense
  refine congrArg (· + bq (ix2 0 l)) (Finset.sum_congr rfl fun e _ => congrArg (· * wq (ix2 e l)) ?_)
  exact pick f (fun j => w0 (ix2 j e)) hs k.val

end Cert.KernelIdealProof
-- ==== Proof.BlockOut.lean ====
/- One grid point's attention heads, output layer and readout, read at an index. -/
module

public import proofs.«01_k».proof.Proof.BlockRead

@[expose] public section

set_option maxRecDepth 16384

noncomputable section

namespace Cert.KernelIdealProof

open Cert.KernelIdeal Cert.KernelIdeal.Gen Cert.PoolProof
open Idealize.ShloMosaic Idealize.ShloMosaic.TcCoe Idealize.SL.Sem

/-- The logits of a query over the places of a window, minus infinity where the mask is off. -/
def logit (mask : Fin 520 → BitVec 1) (q : Fin 256 → EReal) (K : Fin 520 → Fin 256 → EReal) (h : Fin 4) (y : Fin 520) : EReal :=
  Scalar.select (mask y) ((∑ e, q (col h e) * K y (col h e)) * Ideal.ofBits .f32 0x3E000000#32) ⊥

variable (v3 v23 : BitVec 32) (v26 : FVec Ideal S520x256 .f32) (v35 : FVec Ideal S520x1 .f32) (q : FVec Ideal S128x256 .f32)
  (kg vg : FVec Ideal S520x256 .f32) (mask : IVec S1x520 1) (wv : Vec Ideal S256x256 .f32) (bv : Vec Ideal S1x256 .f32)

/-- The first head. -/
theorem head0 (k : Fin 128) (j : Fin 64) : k0_pay11 (F := Ideal) v3 v23 v26 v35 q kg wv bv (ix2 k j) =
    soft (logit (fun y => k0_pay10 (F := Ideal) v3 v23 (ix2 0 y)) (fun e => q (ix2 k e)) (fun y e => kg (ix2 y e)) 0)
      (fun y => k0_pay9 (F := Ideal) v26 v35 wv bv (ix2 y (col 0 j))) := by
  generalize hm : k0_pay10 (F := Ideal) v3 v23 = M
  generalize hv : k0_pay9 (F := Ideal) v26 v35 wv bv = Z
  unfold k0_pay11
  rw [hm, hv]
  pointwise []
  have c0 : ∀ (e : Fin 64) (h : e.val < 256), (⟨e.val, h⟩ : Fin 256) = col 0 e := fun e h => Fin.ext (by simp [col])
  simp only [c0]
  rw [bits_bot]
  rfl

/-- The second head. -/
theorem head1 (k : Fin 128) (j : Fin 64) :
    k0_pay15 (F := Ideal) (k0_pay12 v26 v35 wv bv) (k0_pay13 v3 v23 q kg) (k0_pay14 v3 v23 q kg) (ix2 k j) =
    soft (logit (fun y => k0_pay10 (F := Ideal) v3 v23 (ix2 0 y)) (fun e => q (ix2 k e)) (fun y e => kg (ix2 y e)) 1)
      (fun y => k0_pay9 (F := Ideal) v26 v35 wv bv (ix2 y (col 1 j))) := by
  generalize hm : k0_pay10 (F := Ideal) v3 v23 = M
  generalize hv : k0_pay9 (F := Ideal) v26 v35 wv bv = Z
  unfold k0_pay15 k0_pay14 k0_pay13 k0_pay12
  rw [hm, hv]
  pointwise []
  rw [bits_bot]
  rfl

/-- The third head. -/
theorem head2 (k : Fin 128) (j : Fin 64) : k0_pay16 (F := Ideal) q kg vg mask (ix2 k j) =
    soft (logit (fun y => mask (ix2 0 y)) (fun e => q (ix2 k e)) (fun y e => kg (ix2 y e)) 2)
      (fun y => vg (ix2 y (col 2 j))) := by
  pointwise [k0_pay16]
  rw [bits_bot]
  rfl

/-- The fourth head's weights, applied. -/
theorem head3 (k : Fin 128) (j : Fin 64) :
    ∑ y, k0_pay18 (F := Ideal) q kg mask (ix2 k y) * k0_pay17 (F := Ideal) vg (ix2 y j) =
    soft (logit (fun y => mask (ix2 0 y)) (fun e => q (ix2 k e)) (fun y e => kg (ix2 y e)) 3)
      (fun y => vg (ix2 y (col 3 j))) := by
  unfold soft
  refine Finset.sum_congr rfl fun y _ => ?_
  pointwise [k0_pay18, k0_pay17]
  rw [bits_bot]
  rfl

/-- The attention a grid point adds to its queries. -/
def att (mask : Fin 520 → BitVec 1) (q : Fin 256 → EReal) (K V : Fin 520 → Fin 256 → EReal) (l : Fin 256) : EReal :=
  soft (logit mask q K (headOf l)) (fun y => V y l)

/-- Column `c * 64 + j` is column `j` of head `c`. -/
theorem col_head (c : Fin 4) (l : Fin 256) (j : Fin 64) (h : l.val = c.val * 64 + j.val) : headOf l = c ∧ col c j = l :=
  ⟨Fin.ext (by show l.val / 64 = _; omega), Fin.ext h.symm⟩

/-- What a grid point writes: the readout of its layered queries. -/
theorem out_read (v1 : BitVec 32) (w0 : Vec Ideal S520x256 .f32) (wo : Vec Ideal S256x256 .f32) (bo : Vec Ideal S1x256 .f32)
    (wr : Vec Ideal S1x128 .f32) (br : Vec Ideal S1x256 .f32) (l : Fin 256)
    (A : Fin 128 → Fin 256 → EReal)
    (hA : ∀ k l, A k l = att (fun y => k0_pay10 (F := Ideal) v3 (shiftWord v1) (ix2 0 y)) (fun e => q (ix2 k e)) (fun y e => kg (ix2 y e))
      (fun y e => blkV v1 v3 w0 wv bv (ix2 y e)) l) :
    blkOut v1 v3 w0 wv bv q kg (blkV v1 v3 w0 wv bv) (k0_pay10 (F := Ideal) v3 (shiftWord v1)) wo bo wr br (ix3 0 0 l) =
      (∑ k : Fin 128, wr (ix2 0 k) * ((q (ix2 k l) + A k l) +
        max (∑ e, (q (ix2 k e) + A k e) * wo (ix2 e l) + bo (ix2 0 l)) 0)) + br (ix2 0 l) := by
  have h0 := head0 v3 (shiftWord v1) (k0_pay2 w0) (k0_pay4 v1 v3) q kg wv bv
  have h1 := head1 v3 (shiftWord v1) (k0_pay2 w0) (k0_pay4 v1 v3) q kg wv bv
  have h2 := head2 q kg (blkV v1 v3 w0 wv bv) (k0_pay10 (F := Ideal) v3 (shiftWord v1))
  have h3 := head3 q kg (blkV v1 v3 w0 wv bv) (k0_pay10 (F := Ideal) v3 (shiftWord v1))
  unfold blkOut
  generalize k0_pay11 (F := Ideal) v3 (shiftWord v1) (k0_pay2 w0) (k0_pay4 v1 v3) q kg wv bv = H0 at h0 ⊢
  generalize k0_pay15 (F := Ideal) _ _ _ = H1 at h1 ⊢
  generalize k0_pay16 (F := Ideal) _ _ _ _ = H2 at h2 ⊢
  generalize k0_pay18 (F := Ideal) _ _ _ = H3 at h3 ⊢
  generalize k0_pay17 (F := Ideal) _ = V3 at h3 ⊢
  pointwise [k0_pay1]
  have disp : ∀ (x : Fin 128) (l : Fin 256),
      (if h : l.val < 64 then H0 (ix2 x ⟨l.val, h⟩) else if h : l.val - 64 < 64 then H1 (ix2 x ⟨l.val - 64, h⟩)
        else if h : l.val - 64 - 64 < 64 then H2 (ix2 x ⟨l.val - 64 - 64, h⟩)
        else ∑ y, H3 (ix2 x y) * V3 (ix2 y ⟨l.val - 64 - 64 - 64, by omega⟩)) = A x l := fun x l => by
    rw [hA]
    unfold att
    split_ifs with a b c
    · obtain ⟨e, f⟩ := col_head 0 l ⟨l.val, a⟩ (by simp)
      rw [h0, f, e]; rfl
    · obtain ⟨e, f⟩ := col_head 1 l ⟨l.val - 64, b⟩ (by show l.val = 1 * 64 + (l.val - 64); omega)
      rw [h1, f, e]; rfl
    · obtain ⟨e, f⟩ := col_head 2 l ⟨l.val - 64 - 64, c⟩ (by show l.val = 2 * 64 + (l.val - 64 - 64); omega)
      rw [h2, f, e]
    · obtain ⟨e, f⟩ := col_head 3 l ⟨l.val - 64 - 64 - 64, by omega⟩ (by show l.val = 3 * 64 + (l.val - 64 - 64 - 64); omega)
      rw [h3, f, e]
  simp only [disp]

/-- Attention over a window's places is attention over the graph's nodes. -/
theorem att_nodes {J : Type} [Fintype J] (e : J → Fin 520) (he : Function.Injective e) (r n : ℕ)
    (hr : ∀ y : Fin 520, (r ≤ y.val ∧ y.val < r + n) ↔ ∃ j, e j = y) (mask : Fin 520 → BitVec 1)
    (hm : ∀ y, mask y = BitVec.ofBool (decide (r ≤ y.val ∧ y.val < r + n))) (q : Fin 256 → EReal) (K V : Fin 520 → Fin 256 → EReal)
    (hV : ∀ y, (∀ j, e j ≠ y) → ∀ l, V y l = 0) (l : Fin 256) :
    att mask q K V l = attend q (fun j => K (e j)) (fun j => V (e j)) l := by
  unfold att attend
  rw [soft_places e he]
  · congr 1
    funext j
    unfold logit
    rw [hm, WordCmp.select_decide, if_pos ((hr _).2 ⟨j, rfl⟩)]
  · intro y hy
    unfold logit
    rw [hm, WordCmp.select_decide, if_neg fun h => ?_]
    obtain ⟨j, hj⟩ := (hr y).1 h
    exact hy j hj
  · intro y hy; exact hV y hy l

/-- What a grid point writes, over the nodes of its graph. -/
theorem blk_nodes {J : Type} [Fintype J] (e : J → Fin 520) (he : Function.Injective e) (s n : ℕ) (hs : s < 10001) (hn : n ≤ 10000)
    (hr : ∀ y : Fin 520, (s % 8 ≤ y.val ∧ y.val < s % 8 + n) ↔ ∃ j, e j = y)
    (w0 : Vec Ideal S520x256 .f32) (w1 : Vec Ideal S520x1 .f32)
    (wq : Vec Ideal S256x256 .f32) (bq : Vec Ideal S1x256 .f32) (wk : Vec Ideal S256x256 .f32) (bk : Vec Ideal S1x256 .f32)
    (wv : Vec Ideal S256x256 .f32) (bv : Vec Ideal S1x256 .f32) (wo : Vec Ideal S256x256 .f32) (bo : Vec Ideal S1x256 .f32)
    (wr : Vec Ideal S1x128 .f32) (br : Vec Ideal S1x256 .f32)
    (sc : J → EReal) (x : J → Fin 256 → EReal) (hsc : ∀ j, w1 (ix2 (e j) 0) = sc j) (hx : ∀ j l, w0 (ix2 (e j) l) = x j l)
    (hinj : ∀ i j, sc i = sc j → i = j) (wr' : Fin 100 → EReal) (hw : ∀ k : Fin 100, wr (ix2 0 (k.castLE (by norm_num))) = wr' k)
    (hz : ∀ k : Fin 128, 100 ≤ k.val → wr (ix2 0 k) = 0) (l : Fin 256) :
    blk (BitVec.ofNat 32 s) (BitVec.ofNat 32 n) w0 w1 wq bq wk bk wv bv wo bo wr br (ix3 0 0 l) =
      graphOut sc x (fun e l => wq (ix2 e l)) (fun l => bq (ix2 0 l)) (fun e l => wk (ix2 e l)) (fun l => bk (ix2 0 l))
        (fun e l => wv (ix2 e l)) (fun l => bv (ix2 0 l)) (fun e l => wo (ix2 e l)) (fun l => bo (ix2 0 l)) wr' (br (ix2 0 l)) l := by
  have off : ∀ y, (∀ j, e j ≠ y) → ¬ (s % 8 ≤ y.val ∧ y.val < s % 8 + n) := fun y hy h => by
    obtain ⟨j, hj⟩ := (hr y).1 h; exact hy j hj
  have on : ∀ j, s % 8 ≤ (e j).val ∧ (e j).val < s % 8 + n := fun j => (hr _).2 ⟨j, rfl⟩
  set f : Fin 520 → EReal := fun y => if s % 8 ≤ y.val ∧ y.val < s % 8 + n then w1 (ix2 y 0) else ⊥ with hf
  have hoff : ∀ y, (∀ j, e j ≠ y) → f y ≤ floorScore := fun y hy => by
    rw [hf]; simp only; rw [if_neg (off y hy)]; exact bot_le
  have hfe : ∀ j, f (e j) = sc j := fun j => by rw [hf]; simp only; rw [if_pos (on j), hsc]
  have hfs : ∀ i j, floorScore < f i → f i = f j → i = j := fun a b ha hab => by
    obtain ⟨i, rfl⟩ := node_of_above e he f hoff a ha
    obtain ⟨j, rfl⟩ := node_of_above e he f hoff b (hab ▸ ha)
    rw [hinj i j ((hfe i).symm.trans (hab.trans (hfe j)))]
  have hq : ∀ (k : Fin 128) l, blkQ (BitVec.ofNat 32 s) (BitVec.ofNat 32 n) w0 w1 wq bq (ix2 k l) =
      query sc x (fun e l => wq (ix2 e l)) (fun l => bq (ix2 0 l)) k.val l := fun k l => by
    rw [query_read _ _ w0 w1 wq bq f (fun j => score_read s n hs hn w1 j) hfs]
    unfold query
    congr 1
    funext c
    rw [pooled_places e he f hoff]
    simp only [hfe, hx]
  have hA : ∀ k l, att (fun y => k0_pay10 (F := Ideal) (BitVec.ofNat 32 n) (shiftWord (BitVec.ofNat 32 s)) (ix2 0 y))
      (fun c => blkQ (BitVec.ofNat 32 s) (BitVec.ofNat 32 n) w0 w1 wq bq (ix2 k c))
      (fun y c => blkK (BitVec.ofNat 32 s) (BitVec.ofNat 32 n) w0 wk bk (ix2 y c))
      (fun y c => blkV (BitVec.ofNat 32 s) (BitVec.ofNat 32 n) w0 wv bv (ix2 y c)) l =
      attend (query sc x (fun e l => wq (ix2 e l)) (fun l => bq (ix2 0 l)) k.val)
        (fun j => dense (x j) (fun e l => wk (ix2 e l)) (fun l => bk (ix2 0 l)))
        (fun j => dense (x j) (fun e l => wv (ix2 e l)) (fun l => bv (ix2 0 l))) l := fun k l => by
    rw [att_nodes e he (s % 8) n hr _ (fun y => by rw [shift_read s hs]; exact mask_read n _ (Nat.mod_lt _ (by norm_num)) hn y) _ _ _
      (fun y hy l => by rw [value_read s n hs hn, if_neg (off y hy)])]
    have eK : (fun j c => blkK (BitVec.ofNat 32 s) (BitVec.ofNat 32 n) w0 wk bk (ix2 (e j) c)) =
        fun j => dense (x j) (fun e l => wk (ix2 e l)) (fun l => bk (ix2 0 l)) := by
      funext j c; rw [key_read s n hs hn, if_pos (on j)]; simp only [hx]
    have eV : (fun j c => blkV (BitVec.ofNat 32 s) (BitVec.ofNat 32 n) w0 wv bv (ix2 (e j) c)) =
        fun j => dense (x j) (fun e l => wv (ix2 e l)) (fun l => bv (ix2 0 l)) := by
      funext j c; rw [value_read s n hs hn, if_pos (on j)]; simp only [hx]
    rw [eK, eV]
    simp only [hq]
  unfold blk
  rw [out_read _ _ _ _ _ _ _ _ _ _ _ _ (fun k l => _) fun k l => (hA k l).symm]
  unfold graphOut layered mixed
  refine congrArg (· + br (ix2 0 l)) ?_
  have hle : 100 ≤ 128 := by norm_num
  rw [sum_places (fun k : Fin 100 => k.castLE hle) (Fin.castLE_injective _)]
  · simp only [hw, hq]
    rfl
  · intro k hk
    rw [hz k (not_lt.1 fun h => hk ⟨k.val, h⟩ rfl), zero_mul]

end Cert.KernelIdealProof
-- ==== Proof.Array.lean ====
/- What the kernel's result array holds after the run: one block per graph. -/
module

public import proofs.«01_k».proof.Proof.Block
public import Idealize.ShloMosaic.Lib.Pipeline.Covers

@[expose] public section

set_option maxRecDepth 16384

noncomputable section

namespace Cert.KernelIdealProof

open Cert.KernelIdeal Cert.KernelIdeal.Gen Cert.PoolProof
open Idealize.ShloMosaic Idealize.ShloMosaic.TcCoe Idealize.SL.Sem

variable (m : (ℓ : Loc nD τ sig) → Buf (Elt Ideal) ℓ)

/-- What the grid point of graph `b` writes, over the arrays as the region finds them. -/
def graphBlk (c : Dev nD) (b : Fin 64) : FVec Ideal S1x1x256 .f32 :=
  blk (BitVec.ofNat 32 (start (graphOf (batchOf m)) b.val)) (BitVec.ofNat 32 (cnt (graphOf (batchOf m)) b.val))
    (winX (V m c main_v81) (start (graphOf (batchOf m)) b.val)) (winS (V m c main_v84) (start (graphOf (batchOf m)) b.val))
    (V m c main_arg7) (V m c main_v91) (V m c main_arg9) (V m c main_v92) (V m c main_arg11) (V m c main_v93)
    (V m c main_arg13) (V m c main_v94) (V m c main_v89) (V m c main_v90)

/-- The kernel's array of blocks. -/
def blocks (c : Dev nD) : FVec Ideal S64x1x256 .f32 := fun y => graphBlk m c (y 0) (ix3 0 0 (y 2))

/-- The block a point writes back is the block of its own number. -/
theorem idx12 : ∀ t : Fin (cfgM m (ok m)).N, ((cfgM m (ok m)).win 12).index t = ![t.val, 0, 0] :=
  (by decide +kernel : ∀ t : Fin grid0.N, cc0_transform_12 (grid0.coords t) = ![t.val, 0, 0])

/-- A grid point's number is its coordinate. -/
theorem coord_eq : ∀ t : Fin grid0.N, ((grid0.coords t) 0).val = t.val := by decide +kernel

/-! Each input window is its whole array at every grid point: its block index is zero, so a read through it is the array. -/

/-- Window 0's block index is zero. -/
theorem idx0 : ∀ t : Fin (cfgM m (ok m)).N, ((cfgM m (ok m)).win 0).index t = ![0, 0] :=
  (by decide +kernel : ∀ t : Fin grid0.N, cc0_transform_0 (grid0.coords t) = ![0, 0])

/-- A place in window 0's block is the same place in its array. -/
theorem emb0 (t : Fin (cfgM m (ok m)).N) (y : (((cfgM m (ok m)).win 0).xblock ((cfgM m (ok m)).grid.coords t)).Idx) (a : Fin 2) :
    (((((cfgM m (ok m)).win 0).blk t).view.emb y) a).val = (y a).val := by
  refine (ValueKit.view_emb_slice_whole_unit_val main_v81 _ _ _ y a).trans ?_
  have e := congrFun (idx0 m t) a
  refine (Nat.add_eq_right).mpr (Eq.trans (congrArg (· * _) e) ?_)
  fin_cases a
  · exact Nat.zero_mul _
  · exact Nat.zero_mul _

/-- Reading through window 0 is reading the array. -/
theorem read0 (t : Fin (cfgM m (ok m)).N) (X : FVec Ideal S10752x256 .f32) :
    (((cfgM m (ok m)).win 0).blk t).view.read (Elt Ideal) X = X := by
  funext y
  exact congrArg X (funext fun a => Fin.ext (emb0 m t y a))

/-- What the body finds in window 0. -/
theorem iblk0 (c : Dev nD) (t : Fin (cfgM m (ok m)).N) : (iblk m (ok m) c 0 t : FVec Ideal S10752x256 .f32) = V m c main_v81 :=
  read0 m t _

/-- Window 1's block index is zero. -/
theorem idx1 : ∀ t : Fin (cfgM m (ok m)).N, ((cfgM m (ok m)).win 1).index t = ![0, 0] :=
  (by decide +kernel : ∀ t : Fin grid0.N, cc0_transform_1 (grid0.coords t) = ![0, 0])

/-- A place in window 1's block is the same place in its array. -/
theorem emb1 (t : Fin (cfgM m (ok m)).N) (y : (((cfgM m (ok m)).win 1).xblock ((cfgM m (ok m)).grid.coords t)).Idx) (a : Fin 2) :
    (((((cfgM m (ok m)).win 1).blk t).view.emb y) a).val = (y a).val := by
  refine (ValueKit.view_emb_slice_whole_unit_val main_v84 _ _ _ y a).trans ?_
  have e := congrFun (idx1 m t) a
  refine (Nat.add_eq_right).mpr (Eq.trans (congrArg (· * _) e) ?_)
  fin_cases a
  · exact Nat.zero_mul _
  · exact Nat.zero_mul _

/-- Reading through window 1 is reading the array. -/
theorem read1 (t : Fin (cfgM m (ok m)).N) (X : FVec Ideal S10752x1 .f32) :
    (((cfgM m (ok m)).win 1).blk t).view.read (Elt Ideal) X = X := by
  funext y
  exact congrArg X (funext fun a => Fin.ext (emb1 m t y a))

/-- What the body finds in window 1. -/
theorem iblk1 (c : Dev nD) (t : Fin (cfgM m (ok m)).N) : (iblk m (ok m) c 1 t : FVec Ideal S10752x1 .f32) = V m c main_v84 :=
  read1 m t _

/-- Window 2's block index is zero. -/
theorem idx2 : ∀ t : Fin (cfgM m (ok m)).N, ((cfgM m (ok m)).win 2).index t = ![0, 0] :=
  (by decide +kernel : ∀ t : Fin grid0.N, cc0_transform_2 (grid0.coords t) = ![0, 0])

/-- A place in window 2's block is the same place in its array. -/
theorem emb2 (t : Fin (cfgM m (ok m)).N) (y : (((cfgM m (ok m)).win 2).xblock ((cfgM m (ok m)).grid.coords t)).Idx) (a : Fin 2) :
    (((((cfgM m (ok m)).win 2).blk t).view.emb y) a).val = (y a).val := by
  refine (ValueKit.view_emb_slice_whole_unit_val main_arg7 _ _ _ y a).trans ?_
  have e := congrFun (idx2 m t) a
  refine (Nat.add_eq_right).mpr (Eq.trans (congrArg (· * _) e) ?_)
  fin_cases a
  · exact Nat.zero_mul _
  · exact Nat.zero_mul _

/-- Reading through window 2 is reading the array. -/
theorem read2 (t : Fin (cfgM m (ok m)).N) (X : FVec Ideal S256x256 .f32) :
    (((cfgM m (ok m)).win 2).blk t).view.read (Elt Ideal) X = X := by
  funext y
  exact congrArg X (funext fun a => Fin.ext (emb2 m t y a))

/-- What the body finds in window 2. -/
theorem iblk2 (c : Dev nD) (t : Fin (cfgM m (ok m)).N) : (iblk m (ok m) c 2 t : FVec Ideal S256x256 .f32) = V m c main_arg7 :=
  read2 m t _

/-- Window 3's block index is zero. -/
theorem idx3 : ∀ t : Fin (cfgM m (ok m)).N, ((cfgM m (ok m)).win 3).index t = ![0, 0] :=
  (by decide +kernel : ∀ t : Fin grid0.N, cc0_transform_3 (grid0.coords t) = ![0, 0])

/-- A place in window 3's block is the same place in its array. -/
theorem emb3 (t : Fin (cfgM m (ok m)).N) (y : (((cfgM m (ok m)).win 3).xblock ((cfgM m (ok m)).grid.coords t)).Idx) (a : Fin 2) :
    (((((cfgM m (ok m)).win 3).blk t).view.emb y) a).val = (y a).val := by
  refine (ValueKit.view_emb_slice_whole_unit_val main_v91 _ _ _ y a).trans ?_
  have e := congrFun (idx3 m t) a
  refine (Nat.add_eq_right).mpr (Eq.trans (congrArg (· * _) e) ?_)
  fin_cases a
  · exact Nat.zero_mul _
  · exact Nat.zero_mul _

/-- Reading through window 3 is reading the array. -/
theorem read3 (t : Fin (cfgM m (ok m)).N) (X : FVec Ideal S1x256 .f32) :
    (((cfgM m (ok m)).win 3).blk t).view.read (Elt Ideal) X = X := by
  funext y
  exact congrArg X (funext fun a => Fin.ext (emb3 m t y a))

/-- What the body finds in window 3. -/
theorem iblk3 (c : Dev nD) (t : Fin (cfgM m (ok m)).N) : (iblk m (ok m) c 3 t : FVec Ideal S1x256 .f32) = V m c main_v91 :=
  read3 m t _

/-- Window 4's block index is zero. -/
theorem idx4 : ∀ t : Fin (cfgM m (ok m)).N, ((cfgM m (ok m)).win 4).index t = ![0, 0] :=
  (by decide +kernel : ∀ t : Fin grid0.N, cc0_transform_4 (grid0.coords t) = ![0, 0])

/-- A place in window 4's block is the same place in its array. -/
theorem emb4 (t : Fin (cfgM m (ok m)).N) (y : (((cfgM m (ok m)).win 4).xblock ((cfgM m (ok m)).grid.coords t)).Idx) (a : Fin 2) :
    (((((cfgM m (ok m)).win 4).blk t).view.emb y) a).val = (y a).val := by
  refine (ValueKit.view_emb_slice_whole_unit_val main_arg9 _ _ _ y a).trans ?_
  have e := congrFun (idx4 m t) a
  refine (Nat.add_eq_right).mpr (Eq.trans (congrArg (· * _) e) ?_)
  fin_cases a
  · exact Nat.zero_mul _
  · exact Nat.zero_mul _

/-- Reading through window 4 is reading the array. -/
theorem read4 (t : Fin (cfgM m (ok m)).N) (X : FVec Ideal S256x256 .f32) :
    (((cfgM m (ok m)).win 4).blk t).view.read (Elt Ideal) X = X := by
  funext y
  exact congrArg X (funext fun a => Fin.ext (emb4 m t y a))

/-- What the body finds in window 4. -/
theorem iblk4 (c : Dev nD) (t : Fin (cfgM m (ok m)).N) : (iblk m (ok m) c 4 t : FVec Ideal S256x256 .f32) = V m c main_arg9 :=
  read4 m t _

/-- Window 5's block index is zero. -/
theorem idx5 : ∀ t : Fin (cfgM m (ok m)).N, ((cfgM m (ok m)).win 5).index t = ![0, 0] :=
  (by decide +kernel : ∀ t : Fin grid0.N, cc0_transform_5 (grid0.coords t) = ![0, 0])

/-- A place in window 5's block is the same place in its array. -/
theorem emb5 (t : Fin (cfgM m (ok m)).N) (y : (((cfgM m (ok m)).win 5).xblock ((cfgM m (ok m)).grid.coords t)).Idx) (a : Fin 2) :
    (((((cfgM m (ok m)).win 5).blk t).view.emb y) a).val = (y a).val := by
  refine (ValueKit.view_emb_slice_whole_unit_val main_v92 _ _ _ y a).trans ?_
  have e := congrFun (idx5 m t) a
  refine (Nat.add_eq_right).mpr (Eq.trans (congrArg (· * _) e) ?_)
  fin_cases a
  · exact Nat.zero_mul _
  · exact Nat.zero_mul _

/-- Reading through window 5 is reading the array. -/
theorem read5 (t : Fin (cfgM m (ok m)).N) (X : FVec Ideal S1x256 .f32) :
    (((cfgM m (ok m)).win 5).blk t).view.read (Elt Ideal) X = X := by
  funext y
  exact congrArg X (funext fun a => Fin.ext (emb5 m t y a))

/-- What the body finds in window 5. -/
theorem iblk5 (c : Dev nD) (t : Fin (cfgM m (ok m)).N) : (iblk m (ok m) c 5 t : FVec Ideal S1x256 .f32) = V m c main_v92 :=
  read5 m t _

/-- Window 6's block index is zero. -/
theorem idx6 : ∀ t : Fin (cfgM m (ok m)).N, ((cfgM m (ok m)).win 6).index t = ![0, 0] :=
  (by decide +kernel : ∀ t : Fin grid0.N, cc0_transform_6 (grid0.coords t) = ![0, 0])

/-- A place in window 6's block is the same place in its array. -/
theorem emb6 (t : Fin (cfgM m (ok m)).N) (y : (((cfgM m (ok m)).win 6).xblock ((cfgM m (ok m)).grid.coords t)).Idx) (a : Fin 2) :
    (((((cfgM m (ok m)).win 6).blk t).view.emb y) a).val = (y a).val := by
  refine (ValueKit.view_emb_slice_whole_unit_val main_arg11 _ _ _ y a).trans ?_
  have e := congrFun (idx6 m t) a
  refine (Nat.add_eq_right).mpr (Eq.trans (congrArg (· * _) e) ?_)
  fin_cases a
  · exact Nat.zero_mul _
  · exact Nat.zero_mul _

/-- Reading through window 6 is reading the array. -/
theorem read6 (t : Fin (cfgM m (ok m)).N) (X : FVec Ideal S256x256 .f32) :
    (((cfgM m (ok m)).win 6).blk t).view.read (Elt Ideal) X = X := by
  funext y
  exact congrArg X (funext fun a => Fin.ext (emb6 m t y a))

/-- What the body finds in window 6. -/
theorem iblk6 (c : Dev nD) (t : Fin (cfgM m (ok m)).N) : (iblk m (ok m) c 6 t : FVec Ideal S256x256 .f32) = V m c main_arg11 :=
  read6 m t _

/-- Window 7's block index is zero. -/
theorem idx7 : ∀ t : Fin (cfgM m (ok m)).N, ((cfgM m (ok m)).win 7).index t = ![0, 0] :=
  (by decide +kernel : ∀ t : Fin grid0.N, cc0_transform_7 (grid0.coords t) = ![0, 0])

/-- A place in window 7's block is the same place in its array. -/
theorem emb7 (t : Fin (cfgM m (ok m)).N) (y : (((cfgM m (ok m)).win 7).xblock ((cfgM m (ok m)).grid.coords t)).Idx) (a : Fin 2) :
    (((((cfgM m (ok m)).win 7).blk t).view.emb y) a).val = (y a).val := by
  refine (ValueKit.view_emb_slice_whole_unit_val main_v93 _ _ _ y a).trans ?_
  have e := congrFun (idx7 m t) a
  refine (Nat.add_eq_right).mpr (Eq.trans (congrArg (· * _) e) ?_)
  fin_cases a
  · exact Nat.zero_mul _
  · exact Nat.zero_mul _

/-- Reading through window 7 is reading the array. -/
theorem read7 (t : Fin (cfgM m (ok m)).N) (X : FVec Ideal S1x256 .f32) :
    (((cfgM m (ok m)).win 7).blk t).view.read (Elt Ideal) X = X := by
  funext y
  exact congrArg X (funext fun a => Fin.ext (emb7 m t y a))

/-- What the body finds in window 7. -/
theorem iblk7 (c : Dev nD) (t : Fin (cfgM m (ok m)).N) : (iblk m (ok m) c 7 t : FVec Ideal S1x256 .f32) = V m c main_v93 :=
  read7 m t _

/-- Window 8's block index is zero. -/
theorem idx8 : ∀ t : Fin (cfgM m (ok m)).N, ((cfgM m (ok m)).win 8).index t = ![0, 0] :=
  (by decide +kernel : ∀ t : Fin grid0.N, cc0_transform_8 (grid0.coords t) = ![0, 0])

/-- A place in window 8's block is the same place in its array. -/
theorem emb8 (t : Fin (cfgM m (ok m)).N) (y : (((cfgM m (ok m)).win 8).xblock ((cfgM m (ok m)).grid.coords t)).Idx) (a : Fin 2) :
    (((((cfgM m (ok m)).win 8).blk t).view.emb y) a).val = (y a).val := by
  refine (ValueKit.view_emb_slice_whole_unit_val main_arg13 _ _ _ y a).trans ?_
  have e := congrFun (idx8 m t) a
  refine (Nat.add_eq_right).mpr (Eq.trans (congrArg (· * _) e) ?_)
  fin_cases a
  · exact Nat.zero_mul _
  · exact Nat.zero_mul _

/-- Reading through window 8 is reading the array. -/
theorem read8 (t : Fin (cfgM m (ok m)).N) (X : FVec Ideal S256x256 .f32) :
    (((cfgM m (ok m)).win 8).blk t).view.read (Elt Ideal) X = X := by
  funext y
  exact congrArg X (funext fun a => Fin.ext (emb8 m t y a))

/-- What the body finds in window 8. -/
theorem iblk8 (c : Dev nD) (t : Fin (cfgM m (ok m)).N) : (iblk m (ok m) c 8 t : FVec Ideal S256x256 .f32) = V m c main_arg13 :=
  read8 m t _

/-- Window 9's block index is zero. -/
theorem idx9 : ∀ t : Fin (cfgM m (ok m)).N, ((cfgM m (ok m)).win 9).index t = ![0, 0] :=
  (by decide +kernel : ∀ t : Fin grid0.N, cc0_transform_9 (grid0.coords t) = ![0, 0])

/-- A place in window 9's block is the same place in its array. -/
theorem emb9 (t : Fin (cfgM m (ok m)).N) (y : (((cfgM m (ok m)).win 9).xblock ((cfgM m (ok m)).grid.coords t)).Idx) (a : Fin 2) :
    (((((cfgM m (ok m)).win 9).blk t).view.emb y) a).val = (y a).val := by
  refine (ValueKit.view_emb_slice_whole_unit_val main_v94 _ _ _ y a).trans ?_
  have e := congrFun (idx9 m t) a
  refine (Nat.add_eq_right).mpr (Eq.trans (congrArg (· * _) e) ?_)
  fin_cases a
  · exact Nat.zero_mul _
  · exact Nat.zero_mul _

/-- Reading through window 9 is reading the array. -/
theorem read9 (t : Fin (cfgM m (ok m)).N) (X : FVec Ideal S1x256 .f32) :
    (((cfgM m (ok m)).win 9).blk t).view.read (Elt Ideal) X = X := by
  funext y
  exact congrArg X (funext fun a => Fin.ext (emb9 m t y a))

/-- What the body finds in window 9. -/
theorem iblk9 (c : Dev nD) (t : Fin (cfgM m (ok m)).N) : (iblk m (ok m) c 9 t : FVec Ideal S1x256 .f32) = V m c main_v94 :=
  read9 m t _

/-- Window 10's block index is zero. -/
theorem idx10 : ∀ t : Fin (cfgM m (ok m)).N, ((cfgM m (ok m)).win 10).index t = ![0, 0] :=
  (by decide +kernel : ∀ t : Fin grid0.N, cc0_transform_10 (grid0.coords t) = ![0, 0])

/-- A place in window 10's block is the same place in its array. -/
theorem emb10 (t : Fin (cfgM m (ok m)).N) (y : (((cfgM m (ok m)).win 10).xblock ((cfgM m (ok m)).grid.coords t)).Idx) (a : Fin 2) :
    (((((cfgM m (ok m)).win 10).blk t).view.emb y) a).val = (y a).val := by
  refine (ValueKit.view_emb_slice_whole_unit_val main_v89 _ _ _ y a).trans ?_
  have e := congrFun (idx10 m t) a
  refine (Nat.add_eq_right).mpr (Eq.trans (congrArg (· * _) e) ?_)
  fin_cases a
  · exact Nat.zero_mul _
  · exact Nat.zero_mul _

/-- Reading through window 10 is reading the array. -/
theorem read10 (t : Fin (cfgM m (ok m)).N) (X : FVec Ideal S1x128 .f32) :
    (((cfgM m (ok m)).win 10).blk t).view.read (Elt Ideal) X = X := by
  funext y
  exact congrArg X (funext fun a => Fin.ext (emb10 m t y a))

/-- What the body finds in window 10. -/
theorem iblk10 (c : Dev nD) (t : Fin (cfgM m (ok m)).N) : (iblk m (ok m) c 10 t : FVec Ideal S1x128 .f32) = V m c main_v89 :=
  read10 m t _

/-- Window 11's block index is zero. -/
theorem idx11 : ∀ t : Fin (cfgM m (ok m)).N, ((cfgM m (ok m)).win 11).index t = ![0, 0] :=
  (by decide +kernel : ∀ t : Fin grid0.N, cc0_transform_11 (grid0.coords t) = ![0, 0])

/-- A place in window 11's block is the same place in its array. -/
theorem emb11 (t : Fin (cfgM m (ok m)).N) (y : (((cfgM m (ok m)).win 11).xblock ((cfgM m (ok m)).grid.coords t)).Idx) (a : Fin 2) :
    (((((cfgM m (ok m)).win 11).blk t).view.emb y) a).val = (y a).val := by
  refine (ValueKit.view_emb_slice_whole_unit_val main_v90 _ _ _ y a).trans ?_
  have e := congrFun (idx11 m t) a
  refine (Nat.add_eq_right).mpr (Eq.trans (congrArg (· * _) e) ?_)
  fin_cases a
  · exact Nat.zero_mul _
  · exact Nat.zero_mul _

/-- Reading through window 11 is reading the array. -/
theorem read11 (t : Fin (cfgM m (ok m)).N) (X : FVec Ideal S1x256 .f32) :
    (((cfgM m (ok m)).win 11).blk t).view.read (Elt Ideal) X = X := by
  funext y
  exact congrArg X (funext fun a => Fin.ext (emb11 m t y a))

/-- What the body finds in window 11. -/
theorem iblk11 (c : Dev nD) (t : Fin (cfgM m (ok m)).N) : (iblk m (ok m) c 11 t : FVec Ideal S1x256 .f32) = V m c main_v90 :=
  read11 m t _

/-- A place in the output window's block is the point's number, zero and the place's last coordinate. -/
theorem emb12 (t : Fin (cfgM m (ok m)).N) (y : (((cfgM m (ok m)).win 12).xblock ((cfgM m (ok m)).grid.coords t)).Idx) (a : Fin 3) :
    (((((cfgM m (ok m)).win 12).blk t).view.emb y) a).val = ![t.val, 0, 0] a * S1x1x256.size a + (y a).val := by
  refine (ValueKit.view_emb_slice_whole_unit_val main_v95 _ _ _ y a).trans ?_
  have e := congrFun (idx12 m t) a
  exact congrArg (· * S1x1x256.size a + (y a).val) e

/-- Reading the array of blocks at a place of block `b`. -/
theorem blocks_at (c : Dev nD) (J : S64x1x256.Idx) (y : S1x1x256.Idx) (b : Fin 64) (h0 : (J 0).val = b.val) (h2 : (J 2).val = (y 2).val) :
    graphBlk m c b y = blocks m c J := by
  have e : J 0 = b := Fin.ext h0
  unfold blocks
  rw [e]
  generalize graphBlk m c b = Z
  refine congrArg Z (funext fun a => Fin.ext ?_)
  match a with
  | ⟨0, _⟩ => exact Nat.lt_one_iff.mp (y 0).isLt
  | ⟨1, _⟩ => exact Nat.lt_one_iff.mp (y 1).isLt
  | ⟨2, _⟩ => exact h2.symm

/-- The point of graph `t` computes that graph's block. -/
theorem outs_eq (c : Dev nD) (t : Fin (cfgM m (ok m)).N) (ht : t.val < 64) :
    outsAt0 m (ok m) (hyps m) c t = graphBlk m c ⟨t.val, ht⟩ := by
  unfold outsAt0
  have hg : graphAt (grid0.coords t) = ⟨t.val, ht⟩ := Fin.ext (coord_eq t)
  refine (block_out c (grid0.coords t) _ _ _ _ _ _ _ _ _ _ _ _ _ _ _ _ _ _ _ _ _ _ _ _ _ _ _ _ _ _ _ _ _ _ _ _ _ _ _ _ _
    (start (graphOf (batchOf m)) t.val) (start_le ..) (BitVec.ofNat 32 (cnt (graphOf (batchOf m)) t.val))
    (by rw [tbl1, hg]; exact startWords_at ..) (by rw [tbl0, hg]; exact countWords_at ..)).trans ?_
  rw [iblk0, iblk1, iblk2, iblk3, iblk4, iblk5, iblk6, iblk7, iblk8, iblk9, iblk10, iblk11]
  rfl

/-- The output array after the run holds the blocks. -/
theorem outputs (c : Dev nD) : (dats m (ok m) (hyps m) 0 c).arrAt 12 (cfgM m (ok m)).N = blocks m c := by
  refine Pipeline.Dat.arrAt_eq_of_covers (cfg := cfgM m (ok m)) (dats m (ok m) (hyps m) 0 c) 12 _ ?_ fun t _ y => ?_
  · refine Pipeline.Window.covers_of_index_surj _ rfl (by decide : ∀ a : Fin 3, 0 < S1x1x256.size a) fun β => ?_
    have n0 : ((cfgM m (ok m)).win 12).nblk (0 : Fin 3) = 64 := show (64 + 1 - 1) / 1 = 64 by decide
    have n1 : ((cfgM m (ok m)).win 12).nblk (1 : Fin 3) = 1 := show (1 + 1 - 1) / 1 = 1 by decide
    have n2 : ((cfgM m (ok m)).win 12).nblk (2 : Fin 3) = 1 := show (256 + 256 - 1) / 256 = 1 by decide
    have h0 : (β (0 : Fin 3)).val < 64 := lt_of_lt_of_eq (β (0 : Fin 3)).isLt n0
    have h1 : (β (1 : Fin 3)).val < 1 := lt_of_lt_of_eq (β (1 : Fin 3)).isLt n1
    have h2 : (β (2 : Fin 3)).val < 1 := lt_of_lt_of_eq (β (2 : Fin 3)).isLt n2
    refine ⟨⟨(β (0 : Fin 3)).val, by show _ < grid0.N; rw [N_0]; omega⟩, fun a => ?_⟩
    rw [idx12]
    match a with
    | ⟨0, _⟩ => rfl
    | ⟨1, _⟩ => exact (Nat.lt_one_iff.mp h1).symm
    | ⟨2, _⟩ => exact (Nat.lt_one_iff.mp h2).symm
  · have ht : t.val < 64 := lt_of_lt_of_eq t.isLt N_0
    have h0 : (y (0 : Fin 3)).val = 0 := Nat.lt_one_iff.mp (y (0 : Fin 3)).isLt
    blk_simp
    rw [after0_12, outs_eq m c t ht]
    refine blocks_at m c _ _ _ ((emb12 m t y (0 : Fin 3)).trans ?_) ((emb12 m t y (2 : Fin 3)).trans ?_)
    · show t.val * 1 + (y (0 : Fin 3)).val = t.val
      omega
    · show 0 * 256 + (y (2 : Fin 3)).val = (y (2 : Fin 3)).val
      omega

/-- The kernel's result: row `b` is the block of graph `b`. -/
def kernelOut (c : Dev nD) : FVec Ideal S64x256 .f32 := fun y => graphBlk m c (y 0) (ix3 0 0 (y 1))

/-- No two windows stage the same array. -/
theorem arr_inj : Function.Injective (Pipeline.arrRef spec0) := by decide +kernel

/-- The host's last line reshapes the array of blocks into the result. -/
theorem tail_out (c : Dev nD) :
    Pipeline.afterTail pcfgs (fun _ => adm m (ok m)) (dats m (ok m) (hyps m)) 0 (V0 m) [hostOps1] c main_v96 = kernelOut m c := by
  unfold Pipeline.afterTail
  simp only [hostOps1, List.flatten_cons, List.flatten_nil, List.append_nil]
  after_results
  funext y
  have e : Pipeline.withArrays spec0 c (V0 m c) (fun w => (dats m (ok m) (hyps m) 0 c).arrAt w (cfgM m (ok m)).N) (Proc.tc.devRef main_v95)
      = blocks m c := (Pipeline.withArrays_arr spec0 arr_inj c (V0 m c) _ 12).trans (outputs m c)
  refine (congrArg (fun Z : FVec Ideal S64x1x256 .f32 => shapeCast S64x256 Z shapeCasts_S64x1x256_S64x256 y) e).trans ?_
  rw [eq_ix2 y]
  generalize y 0 = b
  generalize y 1 = d
  pointwise
  rfl

/-- After the kernel's run the result buffer holds the graphs' blocks. -/
theorem kernel_run (ρ) : θ_run defs (onTc (τ := τ) (main (F := Ideal))) (s₀ m ρ)
    (fun r => ∀ c : Dev nD, r.2.mem ((c.tc : Thread nD τ).loc main_v96) = kernelOut m c) :=
  (θ_run defs _ _).mono (fun r h c => (h.rest_eq c main_v96 (Pipeline.mem_restRefs_of main_v96 rfl (by decide : ∀ w, (spec0 w).arr.view.ref ≠ main_v96))).trans (tail_out m c)) (run_main m ρ (ok m) (hyps m))

end Cert.KernelIdealProof
-- ==== Proof.Pads.lean ====
/- What an array holds after a scatter that sets cells, read at one cell. -/
module

public import proofs.«01_k».proof.Proof.Scatters

@[expose] public section

set_option maxRecDepth 16384

noncomputable section

namespace Cert.PoolProof

open Idealize.ShloMosaic

variable {α : Type} {w : ℕ}

/-- Rows written from the top on: a row that is one of them holds it. -/
theorem rows_at {R C N : ℕ} (d : ScatterDims (⟨2, ![R, C]⟩ : Shape) (⟨1, ![1]⟩ : Shape) (⟨2, ![N, C]⟩ : Shape))
    (h1 : d.updateWindowDims = [0, 1]) (h2 : d.insertedWindowDims = []) (h3 : d.scatterDimsToOperandDims = [0]) (h4 : d.indexVectorDim = 0)
    (x : (⟨2, ![R, C]⟩ : Shape).Idx → α) (idx : IVec (⟨1, ![1]⟩ : Shape) w) (upd : (⟨2, ![N, C]⟩ : Shape).Idx → α)
    (hz : (idx (ix1 0)).toInt = 0) (r : Fin R) (c : Fin C) (n : Fin N) (hn : n.val = r.val) :
    Host.scatter d (fun _ b => b) x idx upd (ix2 r c) = upd (ix2 n c) := by
  refine scatter_set_some d x idx upd _ _ (fun a => ?_) (fun j' h => ?_)
  · have e := window_rows d h1 h2 h3 h4 idx n c
    match a with
    | ⟨0, _⟩ => exact e.1.trans (by rw [hz, zero_add]; exact congrArg _ hn)
    | ⟨1, _⟩ => exact e.2
  · rw [eq_ix2 j'] at h ⊢
    have e := window_rows d h1 h2 h3 h4 idx (j' 0) (j' 1)
    have a0 := e.1.symm.trans (h 0)
    have a1 := e.2.symm.trans (h 1)
    rw [hz, zero_add] at a0
    have b0 : (j' 0).val = n.val := (Int.ofNat.inj a0).trans hn.symm
    have b1 : (j' 1).val = c.val := Int.ofNat.inj a1
    exact congrArg₂ ix2 (Fin.ext b0) (Fin.ext b1)

/-- One row written from its start on: a written cell holds its update. -/
theorem row_at {R C N : ℕ} (d : ScatterDims (⟨2, ![R, C]⟩ : Shape) (⟨1, ![2]⟩ : Shape) (⟨1, ![N]⟩ : Shape))
    (h1 : d.updateWindowDims = [0]) (h2 : d.insertedWindowDims = [0]) (h3 : d.scatterDimsToOperandDims = [0, 1]) (h4 : d.indexVectorDim = 0)
    (x : (⟨2, ![R, C]⟩ : Shape).Idx → α) (idx : IVec (⟨1, ![2]⟩ : Shape) w) (upd : (⟨1, ![N]⟩ : Shape).Idx → α)
    (hz : (idx (ix1 0)).toInt = 0) (hz' : (idx (ix1 1)).toInt = 0) (r : Fin R) (hr : r.val = 0) (c : Fin C) (n : Fin N) (hn : n.val = c.val) :
    Host.scatter d (fun _ b => b) x idx upd (ix2 r c) = upd (ix1 n) := by
  refine scatter_set_some d x idx upd _ _ (fun a => ?_) (fun j' h => ?_)
  · have e := window_row d h1 h2 h3 h4 idx n
    match a with
    | ⟨0, _⟩ => exact e.1.trans (by rw [hz]; exact congrArg Int.ofNat hr.symm)
    | ⟨1, _⟩ => exact e.2.trans (by rw [hz', zero_add]; exact congrArg Int.ofNat hn)
  · rw [eq_ix1 j'] at h ⊢
    have e := window_row d h1 h2 h3 h4 idx (j' 0)
    have a1 := e.2.symm.trans (h 1)
    rw [hz', zero_add] at a1
    exact congrArg ix1 (Fin.ext ((Int.ofNat.inj a1).trans hn.symm))

/-- One row written from its start on: a cell past the updates keeps what it held. -/
theorem row_past {R C N : ℕ} (d : ScatterDims (⟨2, ![R, C]⟩ : Shape) (⟨1, ![2]⟩ : Shape) (⟨1, ![N]⟩ : Shape))
    (h1 : d.updateWindowDims = [0]) (h2 : d.insertedWindowDims = [0]) (h3 : d.scatterDimsToOperandDims = [0, 1]) (h4 : d.indexVectorDim = 0)
    (x : (⟨2, ![R, C]⟩ : Shape).Idx → α) (idx : IVec (⟨1, ![2]⟩ : Shape) w) (upd : (⟨1, ![N]⟩ : Shape).Idx → α)
    (hz' : (idx (ix1 1)).toInt = 0) (r : Fin R) (c : Fin C) (hn : N ≤ c.val) :
    Host.scatter d (fun _ b => b) x idx upd (ix2 r c) = x (ix2 r c) := by
  refine scatter_set_none d x idx upd _ (fun j' h => ?_)
  rw [eq_ix1 j'] at h
  have e := window_row d h1 h2 h3 h4 idx (j' 0)
  have a1 := e.2.symm.trans (h 1)
  rw [hz', zero_add] at a1
  have b1 : (j' 0).val = c.val := Int.ofNat.inj a1
  have : (j' 0).val < N := (j' 0).isLt
  omega

/-- Cells written at pairs of indices: the cell of a pair that no other update has holds that update. -/
theorem cell_at {R C N : ℕ} (d : ScatterDims (⟨2, ![R, C]⟩ : Shape) (⟨2, ![N, 2]⟩ : Shape) (⟨1, ![N]⟩ : Shape))
    (h1 : d.updateWindowDims = []) (h2 : d.insertedWindowDims = [0, 1]) (h3 : d.scatterDimsToOperandDims = [0, 1]) (h4 : d.indexVectorDim = 1)
    (x : (⟨2, ![R, C]⟩ : Shape).Idx → α) (idx : IVec (⟨2, ![N, 2]⟩ : Shape) w) (upd : (⟨1, ![N]⟩ : Shape).Idx → α)
    (r : Fin R) (c : Fin C) (n : Fin N) (e0 : (idx (ix2 n 0)).toInt = r.val) (e1 : (idx (ix2 n 1)).toInt = c.val)
    (hu : ∀ n' : Fin N, (idx (ix2 n' 0)).toInt = r.val → (idx (ix2 n' 1)).toInt = c.val → n' = n) :
    Host.scatter d (fun _ b => b) x idx upd (ix2 r c) = upd (ix1 n) := by
  refine scatter_set_some d x idx upd _ _ (fun a => ?_) (fun j' h => ?_)
  · have e := window_cell d h1 h2 h3 h4 idx n
    match a with
    | ⟨0, _⟩ => exact e.1.trans e0
    | ⟨1, _⟩ => exact e.2.trans e1
  · rw [eq_ix1 j'] at h ⊢
    have e := window_cell d h1 h2 h3 h4 idx (j' 0)
    exact congrArg ix1 (hu _ (e.1.symm.trans (h 0)) (e.2.symm.trans (h 1)))

/-- Cells written at pairs of indices: a cell no update has keeps what it held. -/
theorem cell_none {R C N : ℕ} (d : ScatterDims (⟨2, ![R, C]⟩ : Shape) (⟨2, ![N, 2]⟩ : Shape) (⟨1, ![N]⟩ : Shape))
    (h1 : d.updateWindowDims = []) (h2 : d.insertedWindowDims = [0, 1]) (h3 : d.scatterDimsToOperandDims = [0, 1]) (h4 : d.indexVectorDim = 1)
    (x : (⟨2, ![R, C]⟩ : Shape).Idx → α) (idx : IVec (⟨2, ![N, 2]⟩ : Shape) w) (upd : (⟨1, ![N]⟩ : Shape).Idx → α)
    (r : Fin R) (c : Fin C) (hu : ∀ n' : Fin N, (idx (ix2 n' 0)).toInt = r.val → (idx (ix2 n' 1)).toInt = c.val → False) :
    Host.scatter d (fun _ b => b) x idx upd (ix2 r c) = x (ix2 r c) := by
  refine scatter_set_none d x idx upd _ (fun j' h => ?_)
  rw [eq_ix1 j'] at h
  have e := window_cell d h1 h2 h3 h4 idx (j' 0)
  exact hu _ (e.1.symm.trans (h 0)) (e.2.symm.trans (h 1))

/-- Rows written at pairs of indices: the row of a pair that no other update has holds that update. -/
theorem line_at {R C E N : ℕ} (d : ScatterDims (⟨3, ![R, C, E]⟩ : Shape) (⟨2, ![N, 2]⟩ : Shape) (⟨2, ![N, E]⟩ : Shape))
    (h1 : d.updateWindowDims = [1]) (h2 : d.insertedWindowDims = [0, 1]) (h3 : d.scatterDimsToOperandDims = [0, 1]) (h4 : d.indexVectorDim = 1)
    (x : (⟨3, ![R, C, E]⟩ : Shape).Idx → α) (idx : IVec (⟨2, ![N, 2]⟩ : Shape) w) (upd : (⟨2, ![N, E]⟩ : Shape).Idx → α)
    (r : Fin R) (c : Fin C) (l : Fin E) (n : Fin N) (e0 : (idx (ix2 n 0)).toInt = r.val) (e1 : (idx (ix2 n 1)).toInt = c.val)
    (hu : ∀ n' : Fin N, (idx (ix2 n' 0)).toInt = r.val → (idx (ix2 n' 1)).toInt = c.val → n' = n) :
    Host.scatter d (fun _ b => b) x idx upd (ix3 r c l) = upd (ix2 n l) := by
  refine scatter_set_some d x idx upd _ _ (fun a => ?_) (fun j' h => ?_)
  · have e := window_line d h1 h2 h3 h4 idx n l
    match a with
    | ⟨0, _⟩ => exact e.1.trans e0
    | ⟨1, _⟩ => exact e.2.1.trans e1
    | ⟨2, _⟩ => exact e.2.2
  · rw [eq_ix2 j'] at h ⊢
    have e := window_line d h1 h2 h3 h4 idx (j' 0) (j' 1)
    exact congrArg₂ ix2 (hu _ (e.1.symm.trans (h 0)) (e.2.1.symm.trans (h 1))) (Fin.ext (Int.ofNat.inj (e.2.2.symm.trans (h 2))))

/-- Rows written at pairs of indices: a row no update has keeps what it held. -/
theorem line_none {R C E N : ℕ} (d : ScatterDims (⟨3, ![R, C, E]⟩ : Shape) (⟨2, ![N, 2]⟩ : Shape) (⟨2, ![N, E]⟩ : Shape))
    (h1 : d.updateWindowDims = [1]) (h2 : d.insertedWindowDims = [0, 1]) (h3 : d.scatterDimsToOperandDims = [0, 1]) (h4 : d.indexVectorDim = 1)
    (x : (⟨3, ![R, C, E]⟩ : Shape).Idx → α) (idx : IVec (⟨2, ![N, 2]⟩ : Shape) w) (upd : (⟨2, ![N, E]⟩ : Shape).Idx → α)
    (r : Fin R) (c : Fin C) (l : Fin E) (hu : ∀ n' : Fin N, (idx (ix2 n' 0)).toInt = r.val → (idx (ix2 n' 1)).toInt = c.val → False) :
    Host.scatter d (fun _ b => b) x idx upd (ix3 r c l) = x (ix3 r c l) := by
  refine scatter_set_none d x idx upd _ (fun j' h => ?_)
  rw [eq_ix2 j'] at h
  have e := window_line d h1 h2 h3 h4 idx (j' 0) (j' 1)
  exact hu _ (e.1.symm.trans (h 0)) (e.2.1.symm.trans (h 1))

end Cert.PoolProof
-- ==== Proof.Entry.lean ====
/- What the kernel's arrays hold when its region starts: the padded rows and scores, the padded readout row, the biases. -/
module

public import proofs.«01_k».proof.Proof.Array
public import proofs.«01_k».proof.Proof.Pads

@[expose] public section

set_option maxRecDepth 16384

noncomputable section

namespace Cert.KernelIdealProof

open Cert.KernelIdeal Cert.KernelIdeal.Gen Cert.PoolProof
open Idealize.ShloMosaic Idealize.ShloMosaic.TcCoe Idealize.SL.Sem

variable (m : (ℓ : Loc nD τ sig) → Buf (Elt Ideal) ℓ)

/-- The scores the host computes before the region. -/
def scores : FVec Ideal S10000x1 .f32 := V m 0 main_v67

/-- The padded rows are the rows written over zeros. -/
theorem rows_eq : V m 0 main_v81 = Host.scatter scatter_S10752x256_S1_S10000x256_01_n_0_0 (fun _ b => b)
    (broadcastInDim S10752x256 ![] bcast_S_S10752x256 (constant (F := Ideal) S_ .f32 0x00000000#32))
    (broadcastInDim S1 ![] bcast_S_S1 (constantI S_ 32 0#32)) (m (0, Proc.tc.devRef main_arg0)) := by
  simp only [Gen.V, Gen.V0, hostOps0, hostOps0_1, hostOps0_2, hostOps0_3, hostOps0_4, List.flatten_cons, List.flatten_nil,
    List.append_nil, List.cons_append, List.nil_append]
  entry_read
  rfl

/-- The padded scores are the scores written over the fill. -/
theorem padScores_eq : V m 0 main_v84 = Host.scatter scatter_S10752x1_S1_S10000x1_01_n_0_0 (fun _ b => b)
    (broadcastInDim S10752x1 ![] bcast_S_S10752x1 (constant (F := Ideal) S_ .f32 0xCE6E6B28#32))
    (broadcastInDim S1 ![] bcast_S_S1 (constantI S_ 32 0#32)) (scores m) := by
  unfold scores
  simp only [Gen.V, Gen.V0, hostOps0, hostOps0_1, hostOps0_2, hostOps0_3, hostOps0_4, List.flatten_cons, List.flatten_nil,
    List.append_nil, List.cons_append, List.nil_append]
  entry_read
  simp only [StableHlo.TRef.ofBuf, StableHlo.TRef.toBuf, cast_eq]

/-- The padded readout row is the readout weights written over zeros. -/
theorem readout_eq : V m 0 main_v89 = Host.scatter scatter_S1x128_S2_S100_0_0_01_0 (fun _ b => b)
    (broadcastInDim S1x128 ![] bcast_S_S1x128 (constant (F := Ideal) S_ .f32 0x00000000#32))
    (concatenate S2 0 [⟨S1, broadcastInDim S1 ![] bcast_S_S1 (constantI S_ 32 0#32)⟩,
      ⟨S1, broadcastInDim S1 ![] bcast_S_S1 (constantI S_ 32 0#32)⟩] concatenates_S1_S1_S2_d0) (m (0, Proc.tc.devRef main_arg15)) := by
  simp only [Gen.V, Gen.V0, hostOps0, hostOps0_1, hostOps0_2, hostOps0_3, hostOps0_4, List.flatten_cons, List.flatten_nil,
    List.append_nil, List.cons_append, List.nil_append]
  entry_read
  rfl

/-- The readout bias is broadcast along the row. -/
theorem readoutBias_eq : V m 0 main_v90 = broadcastInDim S1x256 ![1] bcast_S1_S1x256_1 (m (0, Proc.tc.devRef main_arg16)) := by
  simp only [Gen.V, Gen.V0, hostOps0, hostOps0_1, hostOps0_2, hostOps0_3, hostOps0_4, List.flatten_cons, List.flatten_nil,
    List.append_nil, List.cons_append, List.nil_append]
  entry_read
  rfl

/-- The query bias is the argument as a row. -/
theorem bias8_eq : V m 0 main_v91 = shapeCast S1x256 (m (0, Proc.tc.devRef main_arg8)) shapeCasts_S256_S1x256 := by
  simp only [Gen.V, Gen.V0, hostOps0, hostOps0_1, hostOps0_2, hostOps0_3, hostOps0_4, List.flatten_cons, List.flatten_nil,
    List.append_nil, List.cons_append, List.nil_append]
  entry_read
  rfl

/-- The query bias read at a column. -/
theorem bias8_at (l : Fin 256) : V m 0 main_v91 (ix2 0 l) = (m (0, Proc.tc.devRef main_arg8) : FVec Ideal S256 .f32) (ix1 l) := by
  rw [bias8_eq]
  generalize m (0, Proc.tc.devRef main_arg8) = X
  pointwise

/-- The key bias is the argument as a row. -/
theorem bias10_eq : V m 0 main_v92 = shapeCast S1x256 (m (0, Proc.tc.devRef main_arg10)) shapeCasts_S256_S1x256 := by
  simp only [Gen.V, Gen.V0, hostOps0, hostOps0_1, hostOps0_2, hostOps0_3, hostOps0_4, List.flatten_cons, List.flatten_nil,
    List.append_nil, List.cons_append, List.nil_append]
  entry_read
  rfl

/-- The key bias read at a column. -/
theorem bias10_at (l : Fin 256) : V m 0 main_v92 (ix2 0 l) = (m (0, Proc.tc.devRef main_arg10) : FVec Ideal S256 .f32) (ix1 l) := by
  rw [bias10_eq]
  generalize m (0, Proc.tc.devRef main_arg10) = X
  pointwise

/-- The value bias is the argument as a row. -/
theorem bias12_eq : V m 0 main_v93 = shapeCast S1x256 (m (0, Proc.tc.devRef main_arg12)) shapeCasts_S256_S1x256 := by
  simp only [Gen.V, Gen.V0, hostOps0, hostOps0_1, hostOps0_2, hostOps0_3, hostOps0_4, List.flatten_cons, List.flatten_nil,
    List.append_nil, List.cons_append, List.nil_append]
  entry_read
  rfl

/-- The value bias read at a column. -/
theorem bias12_at (l : Fin 256) : V m 0 main_v93 (ix2 0 l) = (m (0, Proc.tc.devRef main_arg12) : FVec Ideal S256 .f32) (ix1 l) := by
  rw [bias12_eq]
  generalize m (0, Proc.tc.devRef main_arg12) = X
  pointwise

/-- The output bias is the argument as a row. -/
theorem bias14_eq : V m 0 main_v94 = shapeCast S1x256 (m (0, Proc.tc.devRef main_arg14)) shapeCasts_S256_S1x256 := by
  simp only [Gen.V, Gen.V0, hostOps0, hostOps0_1, hostOps0_2, hostOps0_3, hostOps0_4, List.flatten_cons, List.flatten_nil,
    List.append_nil, List.cons_append, List.nil_append]
  entry_read
  rfl

/-- The output bias read at a column. -/
theorem bias14_at (l : Fin 256) : V m 0 main_v94 (ix2 0 l) = (m (0, Proc.tc.devRef main_arg14) : FVec Ideal S256 .f32) (ix1 l) := by
  rw [bias14_eq]
  generalize m (0, Proc.tc.devRef main_arg14) = X
  pointwise

/-- A padded row that is a node's is its row. -/
theorem rows_node (n : Fin 10000) (r : Fin 10752) (h : n.val = r.val) (l : Fin 256) :
    V m 0 main_v81 (ix2 r l) = (m (0, Proc.tc.devRef main_arg0) : FVec Ideal S10000x256 .f32) (ix2 n l) := by
  rw [rows_eq]
  exact rows_at scatter_S10752x256_S1_S10000x256_01_n_0_0 rfl rfl rfl rfl _ _ _ rfl r l n h

/-- A padded score that is a node's is its score. -/
theorem padScores_node (n : Fin 10000) (r : Fin 10752) (h : n.val = r.val) :
    V m 0 main_v84 (ix2 r 0) = scores m (ix2 n 0) := by
  rw [padScores_eq]
  exact rows_at scatter_S10752x1_S1_S10000x1_01_n_0_0 rfl rfl rfl rfl _ _ _ rfl r 0 n h

/-- The padded readout row's first hundred cells are the readout weights. -/
theorem readout_at (k : Fin 128) (n : Fin 100) (h : n.val = k.val) :
    V m 0 main_v89 (ix2 0 k) = (m (0, Proc.tc.devRef main_arg15) : FVec Ideal S100 .f32) (ix1 n) := by
  rw [readout_eq]
  refine row_at scatter_S1x128_S2_S100_0_0_01_0 rfl rfl rfl rfl _ _ _ ?_ ?_ 0 rfl k n h
  · rfl
  · rfl

/-- The padded readout row is zero past the first hundred cells. -/
theorem readout_past (k : Fin 128) (h : 100 ≤ k.val) : V m 0 main_v89 (ix2 0 k) = (0 : EReal) := by
  rw [readout_eq]
  refine (row_past scatter_S1x128_S2_S100_0_0_01_0 rfl rfl rfl rfl _ _ _ ?_ 0 k h).trans ?_
  · rfl
  · pointwise

/-- The readout bias at every column is the one argument. -/
theorem readoutBias_at (l : Fin 256) : V m 0 main_v90 (ix2 0 l) = (m (0, Proc.tc.devRef main_arg16) : FVec Ideal S1 .f32) (ix1 0) := by
  rw [readoutBias_eq]
  generalize m (0, Proc.tc.devRef main_arg16) = X
  pointwise

end Cert.KernelIdealProof
-- ==== Proof.Runs.lean ====
/- The keys sorted: a key's nodes are a run, and a node's place in its run, alone or inside a window that starts at a
   multiple of eight. Nothing here names the programs. -/
module

public import proofs.«01_k».proof.Proof.Spec

@[expose] public section

set_option maxRecDepth 16384

noncomputable section

namespace Cert.PoolProof

/-- What is asked of the keys: from `0` to `63`, increasing, none more than 512 times. -/
structure Keys {N : ℕ} (nb : Fin N → ℤ) : Prop where
  nonneg : ∀ i, 0 ≤ nb i
  below : ∀ i, nb i < 64
  mono : ∀ i j : Fin N, i ≤ j → nb i ≤ nb j
  few : ∀ b : ℕ, b < 64 → cnt nb b ≤ 512

variable {N : ℕ} {nb : Fin N → ℤ} (H : Keys nb)
include H

/-- A key's nodes are the places of its run. -/
theorem Keys.run (b : ℕ) (i : Fin N) : nb i = (b : ℤ) ↔ start nb b ≤ i.val ∧ i.val < start nb b + cnt nb b := by
  have h1 := mem_run nb H.mono H.nonneg b i
  have h2 := mem_run nb H.mono H.nonneg (b + 1) i
  rw [start_succ] at h2
  push_cast at h2
  constructor
  · intro h
    exact ⟨not_lt.1 fun h' => by have := h1.1 h'; omega, h2.2 (by omega)⟩
  · rintro ⟨a, c⟩
    have x := h2.1 c
    have y : ¬ nb i < (b : ℤ) := fun h' => by have := h1.2 h'; omega
    omega

/-- A node's place in its run is below 512. -/
theorem Keys.slot_lt {b : ℕ} (hb : b < 64) (i : Node nb b) : i.val.val - start nb b < 512 := by
  have h := (H.run b i.val).1 i.property
  have := H.few b hb
  omega

/-- A node's place in its run. -/
def Keys.slot {b : ℕ} (hb : b < 64) (i : Node nb b) : Fin 512 := ⟨i.val.val - start nb b, H.slot_lt hb i⟩

/-- Two nodes of a run have different places in the run. -/
theorem Keys.slot_inj {b : ℕ} (hb : b < 64) : Function.Injective (H.slot hb) := fun i j h => by
  have h' : i.val.val - start nb b = j.val.val - start nb b := congrArg Fin.val h
  have hi := (H.run b i.val).1 i.property
  have hj := (H.run b j.val).1 j.property
  exact Subtype.ext (Fin.ext (by omega))

/-- A node's place in the window that starts at the last multiple of eight before its run. -/
def Keys.wslot {b : ℕ} (hb : b < 64) (i : Node nb b) : Fin 520 :=
  ⟨i.val.val - start nb b + start nb b % 8, by have := H.slot_lt hb i; omega⟩

/-- Two nodes of a run have different places in the window. -/
theorem Keys.wslot_inj {b : ℕ} (hb : b < 64) : Function.Injective (H.wslot hb) := fun i j h => by
  have h' : i.val.val - start nb b + start nb b % 8 = j.val.val - start nb b + start nb b % 8 := congrArg Fin.val h
  have hi := (H.run b i.val).1 i.property
  have hj := (H.run b j.val).1 j.property
  exact Subtype.ext (Fin.ext (by omega))

/-- The places of a window that hold the run's nodes. -/
theorem Keys.wslot_range {b : ℕ} (hb : b < 64) (y : Fin 520) :
    (start nb b % 8 ≤ y.val ∧ y.val < start nb b % 8 + cnt nb b) ↔ ∃ j, H.wslot hb j = y := by
  constructor
  · rintro ⟨h1, h2⟩
    have hN := start_add_cnt_le nb b
    refine ⟨⟨⟨y.val - start nb b % 8 + start nb b, by omega⟩, (H.run b _).2 ⟨by show _ ≤ y.val - _ + _; omega, by show y.val - _ + _ < _; omega⟩⟩, ?_⟩
    apply Fin.ext
    show y.val - start nb b % 8 + start nb b - start nb b + start nb b % 8 = y.val
    omega
  · rintro ⟨j, rfl⟩
    have hj := (H.run b j.val).1 j.property
    show _ ≤ j.val.val - start nb b + start nb b % 8 ∧ j.val.val - start nb b + start nb b % 8 < _
    omega

/-- The row a window's place stands for, for a node: the node itself. -/
theorem Keys.wslot_row {b : ℕ} (hb : b < 64) (i : Node nb b) : start nb b / 8 * 8 + (H.wslot hb i).val = i.val.val := by
  have hi := (H.run b i.val).1 i.property
  show start nb b / 8 * 8 + (i.val.val - start nb b + start nb b % 8) = _
  omega

end Cert.PoolProof
-- ==== Proof.RefRows.lean ====
/- The reference's places: where each node's row is written in the array of 64 graphs of 512 places, and what such an
   array holds. -/
module

public import proofs.«01_k».proof.Proof.Gen.ReferenceIdeal.Run
public import proofs.«01_k».proof.Proof.Runs
public import proofs.«01_k».proof.Proof.Pads
public import proofs.«01_k».proof.Proof.Counts
public import Idealize.ShloMosaic.Lib.WordCmp

@[expose] public section

set_option maxRecDepth 16384

noncomputable section

namespace Cert.ReferenceProof

open Cert.ReferenceIdeal Cert.ReferenceIdeal.Gen Cert.PoolProof
open Idealize.ShloMosaic Idealize.ShloMosaic.TcCoe Idealize.SL.Sem

/-- A negative index counted from the end of `k` places. -/
def fixed (k : BitVec 32) (z : IVec S10000 32) : IVec S10000 32 :=
  select (cmpi .slt z (broadcastInDim S10000 ![] bcast_S_S10000 (constantI S_ 32 0#32)))
    (addi z (broadcastInDim S10000 ![] bcast_S_S10000 (constantI S_ 32 k))) z

/-- An index that is not negative stays. -/
theorem fixed_at (k : BitVec 32) (z : IVec S10000 32) (i : Fin 10000) (h : 0 ≤ (z (ix1 i)).toInt) : fixed k z (ix1 i) = z (ix1 i) := by
  unfold fixed
  show Scalar.select (BitVec.ofBool (decide ((z (ix1 i)).toInt < (0#32).toInt))) _ _ = _
  rw [WordCmp.select_decide, if_neg (by simpa using h)]

/-- Indices as one column. -/
def asCol (z : IVec S10000 32) : IVec S10000x1 32 := broadcastInDim S10000x1 ![0] bcast_S10000_S10000x1_0 z

/-- A list as a column, at an entry. -/
theorem asCol_at (z : IVec S10000 32) (i : Fin 10000) : asCol z (ix2 i 0) = z (ix1 i) := by
  pointwise [asCol]

/-- The graph of each node. -/
def nbOf (batch : IVec S10000 32) (i : Fin 10000) : ℤ := (batch (ix1 i)).toInt

/-- The graph numbers, a negative one taken as zero. -/
def clamped (batch : IVec S10000 32) : IVec S10000 32 :=
  maxsi (broadcastInDim S10000 ![] bcast_S_S10000 (id (constantI S_ 32 0#32))) batch

/-- How many nodes each graph has, as words. -/
def countsR (batch : IVec S10000 32) : IVec S64 32 :=
  Host.scatter scatter_S64_S10000x1_S10000_n_0_0_1 IntOp.addi (broadcastInDim S64 ![] bcast_S_S64 (constantI S_ 32 0#32))
    (asCol (fixed 64#32 (clamped batch))) (broadcastInDim S10000 ![] bcast_S_S10000 (constantI S_ 32 1#32))

/-- Where each graph's run starts, as words. -/
def startsR (batch : IVec S10000 32) : IVec S64 32 :=
  concatenate S64 0 [⟨S1, broadcastInDim S1 ![] bcast_S_S1 (constantI S_ 32 0#32)⟩,
    ⟨S63, extractStridedSlice S63 ![0] (Host.reduceWindow IntOp.addi ![64] ![1] ![63] ![0] (countsR batch)
      (broadcastInDim S_ ![] bcast_S_S_ (constantI S_ 32 0#32)) reduceWindows_S64_S64_w64s1p63_0 h_S_) slices_S64_S63_0⟩] concatenates_S1_S63_S64_d0

/-- Each node's place in its graph's run, as words. -/
def posR (batch : IVec S10000 32) : IVec S10000 32 :=
  subi (iotaInDim S10000 32 0) (Host.gather gather_S64_S10000x1_S10000_n_0_n_n_0_1_1 (startsR batch) (asCol (fixed 64#32 batch)))

/-- Each node's graph and place, side by side. -/
def placesR (batch : IVec S10000 32) : IVec S10000x2 32 :=
  concatenate S10000x2 1 [⟨S10000x1, asCol (fixed 64#32 batch)⟩, ⟨S10000x1, asCol (fixed 512#32 (posR batch))⟩]
    concatenates_S10000x1_S10000x1_S10000x2_d1

variable (batch : IVec S10000 32) (H : Keys (nbOf batch))

include H in
/-- The graph numbers in range are not moved by the clamp. -/
theorem clamped_at (i : Fin 10000) : clamped batch (ix1 i) = batch (ix1 i) := by
  have h := H.nonneg i
  unfold clamped
  show (if (batch (ix1 i)).slt 0#32 then 0#32 else batch (ix1 i)) = _
  refine if_neg fun h' => ?_
  have h'' : (batch (ix1 i)).toInt < (0#32).toInt := by simpa [BitVec.slt] using h'
  unfold nbOf at h
  simp at h''
  omega

include H in
/-- The count of a graph is the length of its run. -/
theorem counts_at (b : Fin 64) : countsR batch (ix1 b) = BitVec.ofNat 32 (cnt (nbOf batch) b.val) := by
  refine (counts_read scatter_S64_S10000x1_S10000_n_0_0_1 rfl rfl rfl rfl _ (fun _ => rfl) _ _ (fun _ => rfl) b).trans ?_
  refine congrArg (fun f => BitVec.ofNat 32 (cnt f b.val)) (funext fun i => ?_)
  have e := clamped_at batch H i
  rw [asCol_at, fixed_at _ _ _ (by rw [e]; exact H.nonneg i), e]
  rfl

include H in
/-- The start of a graph is the start of its run. -/
theorem starts_at (b : Fin 64) : startsR batch (ix1 b) = BitVec.ofNat 32 (start (nbOf batch) b.val) := by
  unfold startsR
  generalize hR : Host.reduceWindow IntOp.addi ![64] ![1] ![63] ![0] (countsR batch) _ _ _ = R
  have hr : ∀ j : Fin 64, R (ix1 j) = BitVec.ofNat 32 (start (nbOf batch) (j.val + 1)) := fun j => by
    rw [← hR, start_eq_sum]
    exact running_read _ (cnt (nbOf batch)) (fun b => counts_at batch H b) _ _ _ (fun _ => rfl) j
  pointwise []
  split_ifs with h
  · rw [show b.val = 0 by omega, start_zero]
  · rw [hr]
    refine congrArg (fun k => BitVec.ofNat 32 (start (nbOf batch) k)) ?_
    show b.val - 1 + 1 = b.val
    omega
  · exact absurd rfl ‹¬ _›

/-- A read of 64 words at a column of indices: each index, read signed and kept inside the array, picks its word. -/
theorem gather_words (x : IVec S64 32) (idx : IVec S10000x1 32) (i : Fin 10000) (b : Fin 64) (h : (idx (ix2 i 0)).toInt = (b.val : ℤ)) :
    Host.gather gather_S64_S10000x1_S10000_n_0_n_n_0_1_1 x idx (ix1 i) = x (ix1 b) := by
  show x (GatherDims.operandIdx _ (ix1 i) idx) = _
  refine congrArg x (funext fun a => ?_)
  match a with
  | ⟨0, _⟩ =>
    apply Fin.ext
    show GatherDims.start gather_S64_S10000x1_S10000_n_0_n_n_0_1_1 (ix1 i) idx ⟨0, _⟩ + 0 + 0 = b.val
    have hs : ∀ q, GatherDims.siIdx gather_S64_S10000x1_S10000_n_0_n_n_0_1_1 (ix1 i) ⟨0, q⟩ = ix2 i 0 := by
      intro q
      funext c
      match c with
      | ⟨0, _⟩ => rfl
      | ⟨1, _⟩ => rfl
    unfold GatherDims.start
    refine (congrArg (fun z => z + 0 + 0) (dif_pos (List.mem_singleton.2 rfl))).trans ?_
    show min (idx (GatherDims.siIdx gather_S64_S10000x1_S10000_n_0_n_n_0_1_1 (ix1 i) ⟨0, _⟩)).toInt.toNat (64 - 1) + 0 + 0 = b.val
    refine (congrArg (fun z => min (idx z).toInt.toNat (64 - 1) + 0 + 0) (hs _)).trans ?_
    rw [h]
    have := b.isLt
    omega

include H in
/-- The place of a node is its distance from the start of its run. -/
theorem pos_at (i : Fin 10000) (b : ℕ) (hb : nbOf batch i = (b : ℤ)) :
    posR batch (ix1 i) = BitVec.ofNat 32 (i.val - start (nbOf batch) b) := by
  have hw := H.below i
  have hlt : b < 64 := by omega
  have hrun := (H.run b i).1 hb
  unfold posR
  show BitVec.ofNat 32 i.val - Host.gather gather_S64_S10000x1_S10000_n_0_n_n_0_1_1 _ _ (ix1 i) = _
  rw [gather_words _ _ i ⟨b, hlt⟩ (by rw [asCol_at, fixed_at _ _ _ (H.nonneg i)]; exact hb), starts_at batch H]
  apply BitVec.eq_of_toNat_eq
  have hi := i.isLt
  rw [BitVec.toNat_sub, BitVec.toNat_ofNat, BitVec.toNat_ofNat, BitVec.toNat_ofNat]
  show (2 ^ 32 - start (nbOf batch) b % 2 ^ 32 + i.val % 2 ^ 32) % 2 ^ 32 = (i.val - start (nbOf batch) b) % 2 ^ 32
  omega

include H in
/-- The first part of a node's place is its graph. -/
theorem places_graph (i : Fin 10000) : (placesR batch (ix2 i 0)).toInt = nbOf batch i := by
  unfold placesR
  pointwise []
  rw [asCol_at, fixed_at _ _ _ (H.nonneg i)]
  rfl

include H in
/-- The second part of a node's place is its place in the run. -/
theorem places_slot (i : Fin 10000) (b : ℕ) (hb : nbOf batch i = (b : ℤ)) :
    (placesR batch (ix2 i 1)).toInt = ((i.val - start (nbOf batch) b : ℕ) : ℤ) := by
  unfold placesR
  pointwise []
  have hi := i.isLt
  have e : (posR batch (ix1 i)).toInt = ((i.val - start (nbOf batch) b : ℕ) : ℤ) := by
    rw [pos_at batch H i b hb]
    exact WordCmp.toInt_ofNat_of_lt (by omega)
  rw [asCol_at, fixed_at _ _ _ (by rw [e]; exact Int.natCast_nonneg _), e]

include H in
/-- Two updates with the same graph and place are the same node's. -/
theorem places_inj (b : Fin 64) (i : Node (nbOf batch) b.val) (n : Fin 10000) (h0 : (placesR batch (ix2 n 0)).toInt = b.val)
    (h1 : (placesR batch (ix2 n 1)).toInt = (H.slot b.isLt i).val) : n = i.val := by
  rw [places_graph batch H] at h0
  rw [places_slot batch H n b.val h0] at h1
  have := H.slot_inj b.isLt (a₁ := ⟨n, h0⟩) (a₂ := i) (Fin.ext (Int.ofNat.inj h1))
  exact congrArg Subtype.val this

include H in
/-- An update's place is its node's. -/
theorem places_off (b : Fin 64) (c : Fin 512) (hc : ∀ i : Node (nbOf batch) b.val, H.slot b.isLt i ≠ c) (n : Fin 10000)
    (h0 : (placesR batch (ix2 n 0)).toInt = b.val) (h1 : (placesR batch (ix2 n 1)).toInt = c.val) : False := by
  rw [places_graph batch H] at h0
  rw [places_slot batch H n b.val h0] at h1
  exact hc ⟨n, h0⟩ (Fin.ext (Int.ofNat.inj h1))

section Arrays

variable {α : Type}

include H in
/-- A value per node, written by graph and place: a node's cell holds its value. -/
theorem cells_node (x : S64x512.Idx → α) (u : S10000.Idx → α) (b : Fin 64) (i : Node (nbOf batch) b.val) :
    Host.scatter scatter_S64x512_S10000x2_S10000_n_01_01_1 (fun _ b => b) x (placesR batch) u (ix2 b (H.slot b.isLt i)) = u (ix1 i.val) :=
  cell_at _ rfl rfl rfl rfl x _ u b _ i.val ((places_graph batch H _).trans i.property) (places_slot batch H _ _ i.property)
    fun n h0 h1 => places_inj batch H b i n h0 h1

include H in
/-- A cell that is no node's keeps what was there. -/
theorem cells_off (x : S64x512.Idx → α) (u : S10000.Idx → α) (b : Fin 64) (c : Fin 512)
    (hc : ∀ i : Node (nbOf batch) b.val, H.slot b.isLt i ≠ c) :
    Host.scatter scatter_S64x512_S10000x2_S10000_n_01_01_1 (fun _ b => b) x (placesR batch) u (ix2 b c) = x (ix2 b c) :=
  cell_none _ rfl rfl rfl rfl x _ u b c fun n h0 h1 => places_off batch H b c hc n h0 h1

include H in
/-- A row per node, written by graph and place: a node's row holds its values. -/
theorem lines_node (x : S64x512x256.Idx → α) (u : S10000x256.Idx → α) (b : Fin 64) (i : Node (nbOf batch) b.val) (l : Fin 256) :
    Host.scatter scatter_S64x512x256_S10000x2_S10000x256_1_01_01_1 (fun _ b => b) x (placesR batch) u (ix3 b (H.slot b.isLt i) l) =
      u (ix2 i.val l) :=
  line_at _ rfl rfl rfl rfl x _ u b _ l i.val ((places_graph batch H _).trans i.property) (places_slot batch H _ _ i.property)
    fun n h0 h1 => places_inj batch H b i n h0 h1

include H in
/-- A row that is no node's keeps what was there. -/
theorem lines_off (x : S64x512x256.Idx → α) (u : S10000x256.Idx → α) (b : Fin 64) (c : Fin 512)
    (hc : ∀ i : Node (nbOf batch) b.val, H.slot b.isLt i ≠ c) (l : Fin 256) :
    Host.scatter scatter_S64x512x256_S10000x2_S10000x256_1_01_01_1 (fun _ b => b) x (placesR batch) u (ix3 b c l) = x (ix3 b c l) :=
  line_none _ rfl rfl rfl rfl x _ u b c l fun n h0 h1 => places_off batch H b c hc n h0 h1

end Arrays

end Cert.ReferenceProof
-- ==== Proof.RefTop.lean ====
/- The reference's ordering of each graph's places by score: a decreasing arrangement of the places, read at its first
   hundred. -/
module

public import proofs.«01_k».proof.Proof.RefRows
public import Idealize.ShloMosaic.Lib.SortFacts

@[expose] public section

set_option maxRecDepth 16384

noncomputable section

namespace Cert.ReferenceProof

open Cert.ReferenceIdeal Cert.ReferenceIdeal.Gen Cert.PoolProof
open Idealize.ShloMosaic Idealize.ShloMosaic.TcCoe Idealize.SL.Sem

/-- "Greater" of two scores. -/
theorem gt_read (x y : EReal) : FloatOps.cmpfTotal (F := Ideal) (φ := .f32) .gt x y = BitVec.ofBool (decide (y < x)) := rfl

/-- The arrangement of graph `b`'s places by decreasing score. -/
def order (X : FVec Ideal S64x512 .f32) (b : Fin 64) : Fin 512 → Fin 512 :=
  sortedFrom fun k k' => FloatOps.cmpfTotal (F := Ideal) (φ := .f32) .gt (X (ix2 b k)) (X (ix2 b k')) == 1#1

/-- The arrangement takes every place once. -/
theorem order_bij (X : FVec Ideal S64x512 .f32) (b : Fin 64) : Function.Bijective (order X b) :=
  ⟨sortedFrom_injective _, sortedFrom_surjective _⟩

/-- The scores decrease along the arrangement. -/
theorem order_sorted (X : FVec Ideal S64x512 .f32) (b : Fin 64) (a c : Fin 512) (h : a ≤ c) :
    X (ix2 b (order X b c)) ≤ X (ix2 b (order X b a)) := by
  rcases h.eq_or_lt with rfl | h
  · exact le_rfl
  have key : ∀ k k' : Fin 512, (FloatOps.cmpfTotal (F := Ideal) (φ := .f32) .gt (X (ix2 b k)) (X (ix2 b k')) == 1#1) =
      decide (X (ix2 b k') < X (ix2 b k)) := fun k k' => by
    rw [gt_read]; cases decide (X (ix2 b k') < X (ix2 b k)) <;> rfl
  have := sortedFrom_noInversion (fun k k' => FloatOps.cmpfTotal (F := Ideal) (φ := .f32) .gt (X (ix2 b k)) (X (ix2 b k')) == 1#1)
    (fun k k' => FloatOps.cmpfTotal (F := Ideal) (φ := .f32) .gt (X (ix2 b k)) (X (ix2 b k')) == 1#1) ?_ ?_ ?_ a c h
  · rw [key, decide_eq_false_iff_not, not_lt] at this
    exact this
  · intro k k' h
    rw [key] at h ⊢
    simp only [decide_eq_true_eq, decide_eq_false_iff_not, not_lt] at h ⊢
    exact h.le
  · exact fun _ _ h => h
  · intro k k' k'' h h'
    rw [key] at h h' ⊢
    simp only [decide_eq_false_iff_not, not_lt] at h h' ⊢
    exact h.trans h'

/-- Moving along a row. -/
theorem along_row (b : Fin 64) (k k' : Fin 512) (h : 1 < S64x512.rank) : (ix2 b k : S64x512.Idx).along ⟨1, h⟩ k' = ix2 b k' := by
  funext a
  match a with
  | ⟨0, _⟩ => rfl
  | ⟨1, _⟩ => rfl

/-- The sorted rows, and whatever is carried along with them. -/
theorem sorted_row {β : Type} (X : FVec Ideal S64x512 .f32) (y : S64x512.Idx → β) (b : Fin 64) (k : Fin 512) :
    (Host.sort2 S64x512 1 (fun l r => FloatOps.cmpfTotal (F := Ideal) (φ := .f32) .gt l.1 r.1) X y).1 (ix2 b k) = X (ix2 b (order X b k)) ∧
    (Host.sort2 S64x512 1 (fun l r => FloatOps.cmpfTotal (F := Ideal) (φ := .f32) .gt l.1 r.1) X y).2 (ix2 b k) = y (ix2 b (order X b k)) := by
  unfold Host.sort2
  rw [dif_pos (by decide)]
  have e : (sortedFrom fun p q => FloatOps.cmpfTotal (F := Ideal) (φ := .f32) .gt (X ((ix2 b k : S64x512.Idx).along ⟨1, by decide⟩ p))
      (X ((ix2 b k : S64x512.Idx).along ⟨1, by decide⟩ q)) == 1#1) = order X b :=
    congrArg (fun r : Fin 512 → Fin 512 → Bool => sortedFrom r) (funext fun p => funext fun q => by rw [along_row, along_row])
  exact ⟨(congrArg X (along_row b k _ _)).trans (congrArg (fun z : Fin 512 → Fin 512 => X (ix2 b (z k))) e),
    (congrArg y (along_row b k _ _)).trans (congrArg (fun z : Fin 512 → Fin 512 => y (ix2 b (z k))) e)⟩

/-- The first hundred of a row. -/
theorem first_row {β : Type} (y : S64x512.Idx → β) (b : Fin 64) (k : Fin 100) (k' : Fin 512) (hk : k'.val = k.val) :
    extractStridedSlice S64x100 (fun _ => 0) y sliceFits_S64x512_S64x100 (ix2 b k) = y (ix2 b k') := by
  show y _ = y _
  refine congrArg y (funext fun a => ?_)
  match a with
  | ⟨0, _⟩ => apply Fin.ext; show 0 + b.val = b.val; omega
  | ⟨1, _⟩ => apply Fin.ext; show 0 + k.val = k'.val; omega

/-- Each place's number along its row, as a word. -/
def placeWords : IVec S64x512 32 := fun i => if hd : 1 < S64x512.rank then iotaInDim S64x512 32 ⟨1, hd⟩ i else 0#32

/-- The reference's hundred greatest scores are the first hundred of the arrangement. -/
theorem top_values (X : FVec Ideal S64x512 .f32) (b : Fin 64) (k : Fin 100) (k' : Fin 512) (hk : k'.val = k.val) :
    (Host.topK S64x100 1 (FloatOps.cmpfTotal (F := Ideal) .gt) X sliceFits_S64x512_S64x100).1 (ix2 b k) = X (ix2 b (order X b k')) :=
  (first_row _ b k k' hk).trans (sorted_row X placeWords b k').1

/-- Their places are the arrangement's. -/
theorem top_places (X : FVec Ideal S64x512 .f32) (b : Fin 64) (k : Fin 100) (k' : Fin 512) (hk : k'.val = k.val) :
    (Host.topK S64x100 1 (FloatOps.cmpfTotal (F := Ideal) .gt) X sliceFits_S64x512_S64x100).2 (ix2 b k) =
      BitVec.ofNat 32 (order X b k').val :=
  (first_row _ b k k' hk).trans ((sorted_row X placeWords b k').2.trans (dif_pos (by decide)))

end Cert.ReferenceProof
-- ==== Proof.RefParts.lean ====
/- The reference after its scores, in parts: the pooled rows and queries, the keys and values, the masked logits, the
   attention and the readout, each as a function of the arrays it reads. -/
module

public import proofs.«01_k».proof.Proof.RefTop

@[expose] public section

set_option maxRecDepth 16384

noncomputable section

namespace Cert.ReferenceProof

open Cert.ReferenceIdeal Cert.ReferenceIdeal.Gen Cert.PoolProof
open Idealize.ShloMosaic Idealize.ShloMosaic.TcCoe Idealize.SL.Sem

/-- The scores by graph and place. -/
def scoresAt (batch : IVec S10000 32) (sc : FVec Ideal S10000 .f32) : FVec Ideal S64x512 .f32 :=
  Host.scatter scatter_S64x512_S10000x2_S10000_n_01_01_1 (fun _ b => b)
    (broadcastInDim S64x512 ![] bcast_S_S64x512 (constant (F := Ideal) S_ .f32 0xCE6E6B28#32)) (placesR batch) sc

/-- Rows by graph and place. -/
def rowsAt (batch : IVec S10000 32) (X : FVec Ideal S10000x256 .f32) : FVec Ideal S64x512x256 .f32 :=
  Host.scatter scatter_S64x512x256_S10000x2_S10000x256_1_01_01_1 (fun _ b => b)
    (broadcastInDim S64x512x256 ![] bcast_S_S64x512x256 (constant (F := Ideal) S_ .f32 0x00000000#32)) (placesR batch) X

/-- Which places hold a node. -/
def nodesAt (batch : IVec S10000 32) : IVec S64x512 1 :=
  Host.scatter scatter_S64x512_S10000x2_S10000_n_01_01_1 (fun _ b => b)
    (broadcastInDim S64x512 ![] bcast_S_S64x512 (constantI S_ 1 0#1)) (placesR batch)
    (broadcastInDim S10000 ![] bcast_S_S10000 (constantI S_ 1 1#1))

/-- The hundred greatest scores of each graph. -/
def topScores (S : FVec Ideal S64x512 .f32) : FVec Ideal S64x100 .f32 :=
  (Host.topK S64x100 1 (FloatOps.cmpfTotal (F := Ideal) .gt) S sliceFits_S64x512_S64x100).1

/-- Their places. -/
def topPlaces (S : FVec Ideal S64x512 .f32) : IVec S64x100x1 32 :=
  broadcastInDim S64x100x1 ![0, 1] bcast_S64x100_S64x100x1_0_1
    ((Host.topK S64x100 1 (FloatOps.cmpfTotal (F := Ideal) .gt) S sliceFits_S64x512_S64x100).2)

/-- Places, a negative one counted from the end. -/
def fixedPlaces (z : IVec S64x100x1 32) : IVec S64x100x1 32 :=
  select (cmpi .slt z (broadcastInDim S64x100x1 ![] bcast_S_S64x100x1 (constantI S_ 32 0#32)))
    (addi z (broadcastInDim S64x100x1 ![] bcast_S_S64x100x1 (constantI S_ 32 512#32))) z

/-- Which places are inside the array. -/
def inside (z : IVec S64x100x1 32) : IVec S64x100 1 :=
  Host.reduce IntOp.andi (andi (cmpi .sge z (broadcastInDim S64x100x1 ![] bcast_S_S64x100x1 (constantI S_ 32 0#32)))
    (cmpi .sle z (broadcastInDim S64x100x1 ![0, 1, 2] bcast_S1x1x1_S64x100x1_0_1_2
      (broadcastInDim S1x1x1 ![2] bcast_S1_S1x1x1_2 (constantI S1 32 511#32))))) (constantI S_ 1 1#1) reducesTo_S64x100x1_S64x100_d2 h_S_

/-- The rows at given places. -/
def taken (D : FVec Ideal S64x512x256 .f32) (z : IVec S64x100x1 32) : FVec Ideal S64x100x256 .f32 :=
  select (broadcastInDim S64x100x256 ![0, 1] bcast_S64x100_S64x100x256_0_1 (inside z))
    (Host.gather gather_S64x512x256_S64x100x1_S64x100x256_2_1_0_0_1_2_11256 D z)
    (broadcastInDim S64x100x256 ![] bcast_S_S64x100x256 (constant (F := Ideal) S_ .f32 0x7FC00000#32))

/-- Rows weighted by the hyperbolic tangent of their scores, zero where the score is not above the floor. -/
def gated (T : FVec Ideal S64x100x256 .f32) (v : FVec Ideal S64x100 .f32) : FVec Ideal S64x100x256 .f32 :=
  mulf (mulf T (broadcastInDim S64x100x256 ![0, 1, 2] bcast_S64x100x1_S64x100x256_0_1_2
      (broadcastInDim S64x100x1 ![0, 1] bcast_S64x100_S64x100x1_0_1 (Host.tanh v))))
    (broadcastInDim S64x100x256 ![0, 1, 2] bcast_S64x100x1_S64x100x256_0_1_2 (uitofp .f32
      (broadcastInDim S64x100x1 ![0, 1] bcast_S64x100_S64x100x1_0_1
        (cmpf .ogt v (broadcastInDim S64x100 ![] bcast_S_S64x100 (constant (F := Ideal) S_ .f32 0xCCBEBC20#32))))))

/-- A bias along the last axis of rows. -/
def biasRows (b : FVec Ideal S256 .f32) : FVec Ideal S64x100x256 .f32 :=
  broadcastInDim S64x100x256 ![0, 1, 2] bcast_S1x1x256_S64x100x256_0_1_2 (broadcastInDim S1x1x256 ![2] bcast_S256_S1x1x256_2 b)

/-- A dense layer of the selected rows. -/
def denseRows (P : FVec Ideal S64x100x256 .f32) (w : FVec Ideal S256x256 .f32) (b : FVec Ideal S256 .f32) : FVec Ideal S64x100x256 .f32 :=
  addf (Host.dotGeneral dot_S64x100x256_S256x256_S64x100x256_2_0_01_1_n_n none P w) (biasRows b)

/-- A dense layer of all nodes. -/
def denseAll (X : FVec Ideal S10000x256 .f32) (w : FVec Ideal S256x256 .f32) (b : FVec Ideal S256 .f32) : FVec Ideal S10000x256 .f32 :=
  addf (Host.dotGeneral dot_S10000x256_S256x256_S10000x256_1_0_0_1_n_n none X w)
    (broadcastInDim S10000x256 ![0, 1] bcast_S1x256_S10000x256_0_1 (broadcastInDim S1x256 ![1] bcast_S256_S1x256_1 b))

/-- Selected rows by head. -/
def headsQ (Q : FVec Ideal S64x100x256 .f32) : FVec Ideal S64x4x100x64 .f32 :=
  transpose S64x4x100x64 [0, 2, 1, 3] (shapeCast _ Q shapeCasts_S64x100x256_S64x100x4x64) transposes_S64x100x4x64_S64x4x100x64_0_2_1_3

/-- Rows by head. -/
def headsK (K : FVec Ideal S64x512x256 .f32) : FVec Ideal S64x4x512x64 .f32 :=
  transpose S64x4x512x64 [0, 2, 1, 3] (shapeCast _ K shapeCasts_S64x512x256_S64x512x4x64) transposes_S64x512x4x64_S64x4x512x64_0_2_1_3

/-- The masked logits. -/
def logits (M : IVec S64x512 1) (Q : FVec Ideal S64x100x256 .f32) (K : FVec Ideal S64x512x256 .f32) : FVec Ideal S64x4x100x512 .f32 :=
  select (broadcastInDim S64x4x100x512 ![0, 1, 2, 3] bcast_S64x1x1x512_S64x4x100x512_0_1_2_3
      (broadcastInDim S64x1x1x512 ![0, 3] bcast_S64x512_S64x1x1x512_0_3 M))
    (Host.divf (Host.dotGeneral dot_S64x4x100x64_S64x4x512x64_S64x4x100x512_3_3_2_2_01_01 none (headsQ Q) (headsK K))
      (broadcastInDim S64x4x100x512 ![] bcast_S_S64x4x100x512 (id (Host.sqrt (constant (F := Ideal) S_ .f32 0x42800000#32)))))
    (broadcastInDim S64x4x100x512 ![] bcast_S_S64x4x100x512 (id (constant (F := Ideal) S_ .f32 0xFF800000#32)))

/-- A number per query along the places. -/
def along (z : FVec Ideal S64x4x100 .f32) : FVec Ideal S64x4x100x512 .f32 :=
  broadcastInDim S64x4x100x512 ![0, 1, 2, 3] bcast_S64x4x100x1_S64x4x100x512_0_1_2_3
    (broadcastInDim S64x4x100x1 ![0, 1, 2] bcast_S64x4x100_S64x4x100x1_0_1_2 z)

/-- The exponentials, the largest logit taken off first. -/
def exps (L : FVec Ideal S64x4x100x512 .f32) : FVec Ideal S64x4x100x512 .f32 :=
  Host.exp (subf L (along (maximumf (broadcastInDim S64x4x100 ![] bcast_S_S64x4x100 (constant (F := Ideal) S_ .f32 0xFF800000#32))
    (Host.reduce FloatOps.maximumf L (constant (F := Ideal) S_ .f32 0xFF800000#32) reducesTo_S64x4x100x512_S64x4x100_d3 h_S_))))

/-- The attention by head. -/
def attended (E : FVec Ideal S64x4x100x512 .f32) (V : FVec Ideal S64x512x256 .f32) : FVec Ideal S64x4x100x64 .f32 :=
  Host.dotGeneral dot_S64x4x100x512_S64x4x512x64_S64x4x100x64_3_2_2_3_01_01 none
    (Host.divf E (along (Host.reduceAdd E (constant (F := Ideal) S_ .f32 0x00000000#32) reducesTo_S64x4x100x512_S64x4x100_d3 h_S_))) (headsK V)

/-- Queries and attention. -/
def mixedR (Q : FVec Ideal S64x100x256 .f32) (E : FVec Ideal S64x4x100x512 .f32) (V : FVec Ideal S64x512x256 .f32) : FVec Ideal S64x100x256 .f32 :=
  addf Q (shapeCast _ (transpose S64x100x4x64 [0, 2, 1, 3] (attended E V) transposes_S64x4x100x64_S64x100x4x64_0_2_1_3)
    shapeCasts_S64x100x4x64_S64x100x256)

/-- The output layer and the readout. -/
def readR (O : FVec Ideal S64x100x256 .f32) (wo : FVec Ideal S256x256 .f32) (bo : FVec Ideal S256 .f32) (wr : FVec Ideal S100 .f32)
    (br : FVec Ideal S1 .f32) : FVec Ideal S64x256 .f32 :=
  addf (Host.dotGeneral dot_S64x100x256_S100_S64x256_1_0_02_n_n_n none
      (addf O (maximumf (denseRows O wo bo) (broadcastInDim S64x100x256 ![] bcast_S_S64x100x256 (constant (F := Ideal) S_ .f32 0x00000000#32)))) wr)
    (broadcastInDim S64x256 ![0, 1] bcast_S1x1_S64x256_0_1 (broadcastInDim S1x1 ![1] bcast_S1_S1x1_1 br))

/-- The queries. -/
def queriesR (batch : IVec S10000 32) (sc : FVec Ideal S10000 .f32) (X : FVec Ideal S10000x256 .f32) (wq : FVec Ideal S256x256 .f32)
    (bq : FVec Ideal S256 .f32) : FVec Ideal S64x100x256 .f32 :=
  denseRows (gated (taken (rowsAt batch X) (fixedPlaces (topPlaces (scoresAt batch sc)))) (topScores (scoresAt batch sc))) wq bq

/-- The reference, after its scores. -/
def refOut (batch : IVec S10000 32) (sc : FVec Ideal S10000 .f32) (X : FVec Ideal S10000x256 .f32)
    (wq : FVec Ideal S256x256 .f32) (bq : FVec Ideal S256 .f32) (wk : FVec Ideal S256x256 .f32) (bk : FVec Ideal S256 .f32)
    (wv : FVec Ideal S256x256 .f32) (bv : FVec Ideal S256 .f32) (wo : FVec Ideal S256x256 .f32) (bo : FVec Ideal S256 .f32)
    (wr : FVec Ideal S100 .f32) (br : FVec Ideal S1 .f32) : FVec Ideal S64x256 .f32 :=
  readR (mixedR (queriesR batch sc X wq bq)
    (exps (logits (nodesAt batch) (queriesR batch sc X wq bq) (rowsAt batch (denseAll X wk bk)))) (rowsAt batch (denseAll X wv bv))) wo bo wr br

end Cert.ReferenceProof
-- ==== Proof.RefScore.lean ====
/- The score of every node as the reference computes it: half a linear layer of the node's features, half another linear
   layer spread along the edges. -/
module

public import proofs.«01_k».proof.Proof.RefParts

@[expose] public section

set_option maxRecDepth 16384

noncomputable section

namespace Cert.ReferenceProof

open Cert.ReferenceIdeal Cert.ReferenceIdeal.Gen Cert.PoolProof
open Idealize.ShloMosaic Idealize.ShloMosaic.TcCoe Idealize.SL.Sem

/-- Where the edges start. -/
def sources (ei : IVec S2x160000 32) : IVec S160000 32 :=
  shapeCast S160000 (extractStridedSlice S1x160000 ![0, 0] ei slices_S2x160000_S1x160000_0_0) shapeCasts_S1x160000_S160000

/-- Where the edges end. -/
def targets (ei : IVec S2x160000 32) : IVec S160000 32 :=
  shapeCast S160000 (extractStridedSlice S1x160000 ![1, 0] ei slices_S2x160000_S1x160000_1_0) shapeCasts_S1x160000_S160000

/-- Node numbers as one column, a negative one counted from the end. -/
def nodeCol (z : IVec S160000 32) : IVec S160000x1 32 :=
  broadcastInDim S160000x1 ![0] bcast_S160000_S160000x1_0
    (select (cmpi .slt z (broadcastInDim S160000 ![] bcast_S_S160000 (constantI S_ 32 0#32)))
      (addi z (broadcastInDim S160000 ![] bcast_S_S160000 (constantI S_ 32 10000#32))) z)

/-- One more than the number of edges ending at each node. -/
def degrees (z : IVec S160000 32) : FVec Ideal S10000 .f32 :=
  addf (sitofp .f32 (Host.scatter scatter_S10000_S160000x1_S160000_n_0_0_1 IntOp.addi
      (broadcastInDim S10000 ![] bcast_S_S10000 (constantI S_ 32 0#32))
      (nodeCol (maxsi (broadcastInDim S160000 ![] bcast_S_S160000 (id (constantI S_ 32 0#32))) z))
      (broadcastInDim S160000 ![] bcast_S_S160000 (constantI S_ 32 1#32))))
    (broadcastInDim S10000 ![] bcast_S_S10000 (constant (F := Ideal) S_ .f32 0x3F800000#32))

/-- A linear layer with one output. -/
def oneOut (x : FVec Ideal S10000x256 .f32) (w : FVec Ideal S256x1 .f32) (b : FVec Ideal S1 .f32) : FVec Ideal S10000x1 .f32 :=
  addf (Host.dotGeneral dot_S10000x256_S256x1_S10000x1_1_0_0_1_n_n none x w)
    (broadcastInDim S10000x1 ![0, 1] bcast_S1x1_S10000x1_0_1 (broadcastInDim S1x1 ![1] bcast_S1_S1x1_1 b))

/-- Each edge's weight. -/
def edgeWeights (s t : IVec S160000 32) (d : FVec Ideal S10000 .f32) : FVec Ideal S160000 .f32 :=
  Host.divf (broadcastInDim S160000 ![] bcast_S_S160000 (constant (F := Ideal) S_ .f32 0x3F800000#32))
    (Host.sqrt (mulf (Host.gather gather_S10000_S160000x1_S160000_n_0_n_n_0_1_1 d (nodeCol s))
      (Host.gather gather_S10000_S160000x1_S160000_n_0_n_n_0_1_1 d (nodeCol t))))

/-- A value per node, spread along the weighted edges and added to its own share. -/
def spread (s t : IVec S160000 32) (d : FVec Ideal S10000 .f32) (h : FVec Ideal S10000x1 .f32) : FVec Ideal S10000x1 .f32 :=
  addf (Host.scatterAdd scatter_S10000x1_S160000x1_S160000x1_1_0_0_1
      (broadcastInDim S10000x1 ![] bcast_S_S10000x1 (constant (F := Ideal) S_ .f32 0x00000000#32)) (nodeCol t)
      (mulf (broadcastInDim S160000x1 ![0] bcast_S160000_S160000x1_0 (edgeWeights s t d))
        (Host.gather gather_S10000x1_S160000x1_S160000x1_1_0_n_n_0_1_11 h (nodeCol s))))
    (Host.divf h (broadcastInDim S10000x1 ![0] bcast_S10000_S10000x1_0 d))

/-- The scores as one column. -/
def scoreCol (x : FVec Ideal S10000x256 .f32) (ei : IVec S2x160000 32) (w1 : FVec Ideal S256x1 .f32) (b1 : FVec Ideal S1 .f32)
    (w2 : FVec Ideal S256x1 .f32) (b2 : FVec Ideal S1 .f32) : FVec Ideal S10000x1 .f32 :=
  addf (mulf (broadcastInDim S10000x1 ![] bcast_S_S10000x1 (constant (F := Ideal) S_ .f32 0x3F000000#32)) (oneOut x w1 b1))
    (mulf (broadcastInDim S10000x1 ![] bcast_S_S10000x1 (constant (F := Ideal) S_ .f32 0x3F000000#32))
      (spread (sources ei) (targets ei) (degrees (targets ei)) (oneOut x w2 b2)))

/-- The scores. -/
def scoreVec (x : FVec Ideal S10000x256 .f32) (ei : IVec S2x160000 32) (w1 : FVec Ideal S256x1 .f32) (b1 : FVec Ideal S1 .f32)
    (w2 : FVec Ideal S256x1 .f32) (b2 : FVec Ideal S1 .f32) : FVec Ideal S10000 .f32 :=
  shapeCast S10000 (scoreCol x ei w1 b1 w2 b2) shapeCasts_S10000x1_S10000

/-- A score of the list is the entry of the column. -/
theorem scoreVec_at (x : FVec Ideal S10000x256 .f32) (ei : IVec S2x160000 32) (w1 : FVec Ideal S256x1 .f32) (b1 : FVec Ideal S1 .f32)
    (w2 : FVec Ideal S256x1 .f32) (b2 : FVec Ideal S1 .f32) (n : Fin 10000) :
    scoreVec x ei w1 b1 w2 b2 (ix1 n) = scoreCol x ei w1 b1 w2 b2 (ix2 n 0) := by
  unfold scoreVec
  generalize scoreCol x ei w1 b1 w2 b2 = Y
  pointwise []

end Cert.ReferenceProof
-- ==== Proof.KernelScore.lean ====
/- The kernel's scores are the reference's. -/
module

public import proofs.«01_k».proof.Proof.Entry
public import proofs.«01_k».proof.Proof.RefScore

@[expose] public section

set_option maxRecDepth 16384

noncomputable section

namespace Cert.KernelIdealProof

open Cert.KernelIdeal Cert.KernelIdeal.Gen Cert.PoolProof
open Idealize.ShloMosaic Idealize.ShloMosaic.TcCoe Idealize.SL.Sem

variable (m : (ℓ : Loc nD τ sig) → Buf (Elt Ideal) ℓ)

set_option maxHeartbeats 1600000 in
/-- The kernel's scores are the score column of its arguments. -/
theorem scores_eq : scores m = Cert.ReferenceProof.scoreCol (m (0, Proc.tc.devRef main_arg0)) (m (0, Proc.tc.devRef main_arg1))
    (m (0, Proc.tc.devRef main_arg3)) (m (0, Proc.tc.devRef main_arg4)) (m (0, Proc.tc.devRef main_arg5))
    (m (0, Proc.tc.devRef main_arg6)) := by
  unfold scores
  simp only [Gen.V, Gen.V0, hostOps0, hostOps0_1, hostOps0_2, hostOps0_3, hostOps0_4, List.flatten_cons, List.flatten_nil,
    List.append_nil, List.cons_append, List.nil_append]
  entry_read
  simp only [StableHlo.TRef.ofBuf, StableHlo.TRef.toBuf, cast_eq]
  rfl

end Cert.KernelIdealProof
-- ==== Proof.RefRead.lean ====
/- The reference's parts read at an index. -/
module

public import proofs.«01_k».proof.Proof.RefParts

@[expose] public section

set_option maxRecDepth 16384

noncomputable section

namespace Cert.ReferenceProof

open Cert.ReferenceIdeal Cert.ReferenceIdeal.Gen Cert.PoolProof
open Idealize.ShloMosaic Idealize.ShloMosaic.TcCoe Idealize.SL.Sem

/-- A flag as a number. -/
theorem flag_at {p : Prop} [Decidable p] : FloatOps.uitofp (F := Ideal) .f32 (BitVec.ofBool (decide p)) = if p then 1 else 0 := by
  by_cases h : p
  · rw [if_pos h, decide_eq_true h]
    show ((((1#1).toNat : ℝ)) : EReal) = 1
    norm_num
  · rw [if_neg h, decide_eq_false h]
    show ((((0#1).toNat : ℝ)) : EReal) = 0
    norm_num

/-- A dense layer of all nodes, at an entry. -/
theorem denseAll_at (X : FVec Ideal S10000x256 .f32) (w : FVec Ideal S256x256 .f32) (b : FVec Ideal S256 .f32) (i : Fin 10000) (l : Fin 256) :
    denseAll X w b (ix2 i l) = dense (fun e => X (ix2 i e)) (fun e l => w (ix2 e l)) (fun l => b (ix1 l)) l := by
  pointwise [denseAll]
  rfl

/-- A dense layer of the pooled rows, at an entry. -/
theorem denseRows_at (P : FVec Ideal S64x100x256 .f32) (w : FVec Ideal S256x256 .f32) (b : FVec Ideal S256 .f32) (g : Fin 64) (k : Fin 100) (l : Fin 256) :
    denseRows P w b (ix3 g k l) = dense (fun e => P (ix3 g k e)) (fun e l => w (ix2 e l)) (fun l => b (ix1 l)) l := by
  pointwise [denseRows, biasRows]
  rfl

/-- The output layer and the readout, at an entry. -/
theorem readR_at (O : FVec Ideal S64x100x256 .f32) (wo : FVec Ideal S256x256 .f32) (bo : FVec Ideal S256 .f32) (wr : FVec Ideal S100 .f32)
    (br : FVec Ideal S1 .f32) (g : Fin 64) (l : Fin 256) :
    readR O wo bo wr br (ix2 g l) = (∑ k : Fin 100, wr (ix1 k) * (O (ix3 g k l) +
      max (dense (fun e => O (ix3 g k e)) (fun e l => wo (ix2 e l)) (fun l => bo (ix1 l)) l) 0)) + br (ix1 0) := by
  pointwise [readR]
  refine congrArg (· + br (ix1 0)) (Finset.sum_congr rfl fun k _ => ?_)
  rw [mul_comm, denseRows_at]

/-- A gated row, at an entry. -/
theorem gated_at (T : FVec Ideal S64x100x256 .f32) (v : FVec Ideal S64x100 .f32) (g : Fin 64) (k : Fin 100) (l : Fin 256) :
    gated T v (ix3 g k l) = T (ix3 g k l) * Ideal.tanh (v (ix2 g k)) * (if floorScore < v (ix2 g k) then 1 else 0) := by
  pointwise [gated]
  exact congrArg (T (ix3 g k l) * Ideal.tanh (v (ix2 g k)) * ·) flag_at

/-- The queries with their attention, at an entry. -/
theorem mixedR_at (Q : FVec Ideal S64x100x256 .f32) (E : FVec Ideal S64x4x100x512 .f32) (V : FVec Ideal S64x512x256 .f32)
    (g : Fin 64) (k : Fin 100) (l : Fin 256) (e : Fin 64) (he : col (headOf l) e = l) :
    mixedR Q E V (ix3 g k l) = Q (ix3 g k l) + attended E V (ix4 g (headOf l) k e) := by
  have hd : e = ⟨l.val % 64, Nat.mod_lt _ (by norm_num)⟩ := Fin.ext (by
    have := congrArg Fin.val he
    have h1 : (col (headOf l) e).val = l.val / 64 * 64 + e.val := rfl
    show e.val = l.val % 64
    omega)
  pointwise [mixedR]
  rw [hd]
  rfl

end Cert.ReferenceProof
-- ==== Proof.RefLogits.lean ====
/- The reference's masked logits read at an index. -/
module

public import proofs.«01_k».proof.Proof.RefParts

@[expose] public section

set_option maxRecDepth 16384

noncomputable section

namespace Cert.ReferenceProof

open Cert.ReferenceIdeal Cert.ReferenceIdeal.Gen Cert.PoolProof
open Idealize.ShloMosaic Idealize.ShloMosaic.TcCoe Idealize.SL.Sem

/-- A head's share of the queries. -/
theorem headsQ_at (Q : FVec Ideal S64x100x256 .f32) (g : Fin 64) (h : Fin 4) (k : Fin 100) (e : Fin 64) :
    headsQ Q (ix4 g h k e) = Q (ix3 g k (col h e)) := by
  pointwise [headsQ]
  rfl

/-- A head's share of rows. -/
theorem headsK_at (K : FVec Ideal S64x512x256 .f32) (g : Fin 64) (h : Fin 4) (k : Fin 512) (e : Fin 64) :
    headsK K (ix4 g h k e) = K (ix3 g k (col h e)) := by
  pointwise [headsK]
  rfl

/-- The products of queries and rows, by head. -/
def products (A : FVec Ideal S64x4x100x64 .f32) (B : FVec Ideal S64x4x512x64 .f32) : FVec Ideal S64x4x100x512 .f32 :=
  Host.dotGeneral dot_S64x4x100x64_S64x4x512x64_S64x4x100x512_3_3_2_2_01_01 none A B

/-- The product of a query and a key, at an entry. -/
theorem products_at (A : FVec Ideal S64x4x100x64 .f32) (B : FVec Ideal S64x4x512x64 .f32) (g : Fin 64) (h : Fin 4) (k : Fin 100)
    (y : Fin 512) : products A B (ix4 g h k y) = ∑ e, A (ix4 g h k e) * B (ix4 g h y e) := by
  pointwise [products]

/-- The mask of places, for every head and query. -/
def masks (M : IVec S64x512 1) : IVec S64x4x100x512 1 :=
  broadcastInDim S64x4x100x512 ![0, 1, 2, 3] bcast_S64x1x1x512_S64x4x100x512_0_1_2_3
    (broadcastInDim S64x1x1x512 ![0, 3] bcast_S64x512_S64x1x1x512_0_3 M)

/-- The flag of a place, repeated over heads and queries. -/
theorem masks_at (M : IVec S64x512 1) (g : Fin 64) (h : Fin 4) (k : Fin 100) (y : Fin 512) : masks M (ix4 g h k y) = M (ix2 g y) := by
  pointwise [masks]

/-- A masked logit: the head's product of query and row over eight where the place holds a node, −∞ elsewhere. -/
theorem logits_at (M : IVec S64x512 1) (Q : FVec Ideal S64x100x256 .f32) (K : FVec Ideal S64x512x256 .f32) (g : Fin 64) (h : Fin 4)
    (k : Fin 100) (y : Fin 512) : logits M Q K (ix4 g h k y) = Scalar.select (M (ix2 g y))
      ((∑ e, Q (ix3 g k (col h e)) * K (ix3 g y (col h e))) * Ideal.ofBits .f32 0x3E000000#32) ⊥ := by
  have e : logits M Q K (ix4 g h k y) = Scalar.select (masks M (ix4 g h k y))
      (Ideal.div (products (headsQ Q) (headsK K) (ix4 g h k y)) (Ideal.sqrt (Ideal.ofBits .f32 0x42800000#32)))
      (Ideal.ofBits .f32 0xFF800000#32) := rfl
  rw [e, masks_at, products_at, div_sqrt_64, bits_bot]
  refine congrArg (fun z => Scalar.select (M (ix2 g y)) (z * _) ⊥) (Finset.sum_congr rfl fun x _ => ?_)
  rw [headsQ_at, headsK_at]

end Cert.ReferenceProof
-- ==== Proof.RefAttn.lean ====
/- The reference's attention read at an index. -/
module

public import proofs.«01_k».proof.Proof.RefLogits

@[expose] public section

set_option maxRecDepth 16384

noncomputable section

namespace Cert.ReferenceProof

open Cert.ReferenceIdeal Cert.ReferenceIdeal.Gen Cert.PoolProof
open Idealize.ShloMosaic Idealize.ShloMosaic.TcCoe Idealize.SL.Sem

/-- The greatest of the numbers along the places. -/
def tops (L : FVec Ideal S64x4x100x512 .f32) : FVec Ideal S64x4x100 .f32 :=
  Host.reduce FloatOps.maximumf L (constant (F := Ideal) S_ .f32 0xFF800000#32) reducesTo_S64x4x100x512_S64x4x100_d3 h_S_

/-- The greatest logit of a query over the places. -/
theorem tops_at (L : FVec Ideal S64x4x100x512 .f32) (g : Fin 64) (h : Fin 4) (k : Fin 100) :
    tops L (ix3 g h k) = Finset.univ.fold max (Ideal.ofBits .f32 0xFF800000#32) fun x => L (ix4 g h k x) := by
  pointwise [tops]

/-- The sum of the numbers along the places. -/
def totals (L : FVec Ideal S64x4x100x512 .f32) : FVec Ideal S64x4x100 .f32 :=
  Host.reduceAdd L (constant (F := Ideal) S_ .f32 0x00000000#32) reducesTo_S64x4x100x512_S64x4x100_d3 h_S_

/-- The sum of a query's weights over the places. -/
theorem totals_at (L : FVec Ideal S64x4x100x512 .f32) (g : Fin 64) (h : Fin 4) (k : Fin 100) :
    totals L (ix3 g h k) = ∑ x, L (ix4 g h k x) := by
  pointwise [totals]

/-- A number per query, repeated along the places. -/
theorem along_at (z : FVec Ideal S64x4x100 .f32) (g : Fin 64) (h : Fin 4) (k : Fin 100) (y : Fin 512) :
    along z (ix4 g h k y) = z (ix3 g h k) := by
  pointwise [along]

/-- The exponential of a difference, at an entry. -/
theorem drop_at (L Z : FVec Ideal S64x4x100x512 .f32) (i : S64x4x100x512.Idx) : Host.exp (subf L Z) i = Ideal.exp (L i - Z i) := rfl

/-- A number per query, not below −∞. -/
def above (T : FVec Ideal S64x4x100 .f32) : FVec Ideal S64x4x100 .f32 :=
  maximumf (broadcastInDim S64x4x100 ![] bcast_S_S64x4x100 (constant (F := Ideal) S_ .f32 0xFF800000#32)) T

/-- The greatest logit is not changed by the maximum with minus infinity. -/
theorem above_at (T : FVec Ideal S64x4x100 .f32) (g : Fin 64) (h : Fin 4) (k : Fin 100) : above T (ix3 g h k) = T (ix3 g h k) := by
  pointwise [above]
  rw [bits_bot]
  exact max_bot_left _

/-- The weights are the exponentials of the logits less the greatest logit. -/
theorem exps_eq (L : FVec Ideal S64x4x100x512 .f32) : exps L = Host.exp (subf L (along (above (tops L)))) := by
  unfold exps above tops
  exact rfl

/-- An exponential: the largest logit along the places taken off first. -/
theorem exps_at (L : FVec Ideal S64x4x100x512 .f32) (g : Fin 64) (h : Fin 4) (k : Fin 100) (y : Fin 512) :
    exps L (ix4 g h k y) = Ideal.exp (L (ix4 g h k y) - Finset.univ.fold max ⊥ fun x => L (ix4 g h k x)) := by
  rw [exps_eq, drop_at, along_at, above_at, tops_at, bits_bot]

/-- Weights and rows, by head. -/
def weigh (W : FVec Ideal S64x4x100x512 .f32) (B : FVec Ideal S64x4x512x64 .f32) : FVec Ideal S64x4x100x64 .f32 :=
  Host.dotGeneral dot_S64x4x100x512_S64x4x512x64_S64x4x100x64_3_2_2_3_01_01 none W B

/-- The weighted sum of the values over the places, at an entry. -/
theorem weigh_at (W : FVec Ideal S64x4x100x512 .f32) (B : FVec Ideal S64x4x512x64 .f32) (g : Fin 64) (h : Fin 4) (k : Fin 100) (e : Fin 64) :
    weigh W B (ix4 g h k e) = ∑ y, W (ix4 g h k y) * B (ix4 g h y e) := by
  pointwise [weigh]

/-- The attention of a query by head. -/
theorem attended_at (E : FVec Ideal S64x4x100x512 .f32) (V : FVec Ideal S64x512x256 .f32) (g : Fin 64) (h : Fin 4) (k : Fin 100) (e : Fin 64) :
    attended E V (ix4 g h k e) = ∑ y, Ideal.div (E (ix4 g h k y)) (∑ x, E (ix4 g h k x)) * V (ix3 g y (col h e)) := by
  have e' : attended E V = weigh (Host.divf E (along (totals E))) (headsK V) := rfl
  rw [e', weigh_at]
  refine Finset.sum_congr rfl fun y _ => ?_
  have e'' : Host.divf E (along (totals E)) (ix4 g h k y) = Ideal.div (E (ix4 g h k y)) (along (totals E) (ix4 g h k y)) := rfl
  rw [e'', along_at, totals_at, headsK_at]

end Cert.ReferenceProof
-- ==== Proof.RefTaken.lean ====
/- The reference's reading of rows at the selected places. -/
module

public import proofs.«01_k».proof.Proof.RefParts

@[expose] public section

set_option maxRecDepth 16384

noncomputable section

namespace Cert.ReferenceProof

open Cert.ReferenceIdeal Cert.ReferenceIdeal.Gen Cert.PoolProof
open Idealize.ShloMosaic Idealize.ShloMosaic.TcCoe Idealize.SL.Sem

/-- Rows read at a place per query: within the query's graph, the place, read signed and kept inside the array, picks the row. -/
theorem gather_rows (x : FVec Ideal S64x512x256 .f32) (z : IVec S64x100x1 32) (g : Fin 64) (k : Fin 100) (l : Fin 256) (p : Fin 512)
    (h : (z (ix3 g k 0)).toInt = (p.val : ℤ)) :
    Host.gather gather_S64x512x256_S64x100x1_S64x100x256_2_1_0_0_1_2_11256 x z (ix3 g k l) = x (ix3 g p l) := by
  show x (GatherDims.operandIdx _ (ix3 g k l) z) = _
  refine congrArg x (funext fun a => ?_)
  match a with
  | ⟨0, _⟩ =>
    apply Fin.ext
    show 0 + g.val + 0 = g.val
    omega
  | ⟨1, _⟩ =>
    apply Fin.ext
    show GatherDims.start gather_S64x512x256_S64x100x1_S64x100x256_2_1_0_0_1_2_11256 (ix3 g k l) z ⟨1, _⟩ + 0 + 0 = p.val
    have hs : ∀ q, GatherDims.siIdx gather_S64x512x256_S64x100x1_S64x100x256_2_1_0_0_1_2_11256 (ix3 g k l) ⟨0, q⟩ = ix3 g k 0 := by
      intro q
      funext c
      match c with
      | ⟨0, _⟩ => rfl
      | ⟨1, _⟩ => rfl
      | ⟨2, _⟩ => rfl
    unfold GatherDims.start
    refine (congrArg (fun z => z + 0 + 0) (dif_pos (List.mem_singleton.2 rfl))).trans ?_
    show min (z (GatherDims.siIdx gather_S64x512x256_S64x100x1_S64x100x256_2_1_0_0_1_2_11256 (ix3 g k l) ⟨0, _⟩)).toInt.toNat (512 - 1) + 0 + 0 = p.val
    refine (congrArg (fun c => min (z c).toInt.toNat (512 - 1) + 0 + 0) (hs _)).trans ?_
    rw [h]
    have := p.isLt
    omega
  | ⟨2, _⟩ =>
    apply Fin.ext
    show 0 + 0 + l.val = l.val
    omega

/-- A place inside the array stays. -/
theorem fixedPlaces_at (z : IVec S64x100x1 32) (g : Fin 64) (k : Fin 100) (p : Fin 512) (h : z (ix3 g k 0) = BitVec.ofNat 32 p.val) :
    fixedPlaces z (ix3 g k 0) = BitVec.ofNat 32 p.val := by
  have hp := p.isLt
  unfold fixedPlaces
  show Scalar.select (BitVec.ofBool (decide ((z (ix3 g k 0)).toInt < (0#32).toInt))) _ _ = _
  rw [h, WordCmp.select_decide, WordCmp.toInt_ofNat_of_lt (by omega), if_neg (by simp)]

/-- A place inside the array is marked inside. -/
theorem inside_at (z : IVec S64x100x1 32) (g : Fin 64) (k : Fin 100) (p : Fin 512) (h : z (ix3 g k 0) = BitVec.ofNat 32 p.val) :
    inside z (ix2 g k) = 1#1 := by
  have hp := p.isLt
  have hi : (z (ix3 g k 0)).toInt = (p.val : ℤ) := by rw [h]; exact WordCmp.toInt_ofNat_of_lt (by omega)
  have e0 : IntOp.cmpi .sge (z (ix3 g k 0)) 0#32 = 1#1 := by
    show BitVec.ofBool (decide ((0#32).toInt ≤ (z (ix3 g k 0)).toInt)) = _
    rw [hi, decide_eq_true (by simp)]; rfl
  have e1 : IntOp.cmpi .sle (z (ix3 g k 0)) 511#32 = 1#1 := by
    show BitVec.ofBool (decide ((z (ix3 g k 0)).toInt ≤ (511#32).toInt)) = _
    rw [hi, decide_eq_true (by show (p.val : ℤ) ≤ 511; omega)]; rfl
  pointwise [inside]
  rw [Finset.univ_unique, Finset.fold_singleton]
  show IntOp.andi (IntOp.andi (IntOp.cmpi .sge (z (ix3 g k 0)) 0#32) (IntOp.cmpi .sle (z (ix3 g k 0)) 511#32)) 1#1 = 1#1
  rw [e0, e1]
  rfl

/-- The row at a place inside the array. -/
theorem taken_at (D : FVec Ideal S64x512x256 .f32) (z : IVec S64x100x1 32) (g : Fin 64) (k : Fin 100) (l : Fin 256) (p : Fin 512)
    (h : z (ix3 g k 0) = BitVec.ofNat 32 p.val) : taken D (fixedPlaces z) (ix3 g k l) = D (ix3 g p l) := by
  have hp := p.isLt
  have e := fixedPlaces_at z g k p h
  have r := gather_rows D (fixedPlaces z) g k l p (by rw [e]; exact WordCmp.toInt_ofNat_of_lt (by omega))
  have m := inside_at (fixedPlaces z) g k p e
  generalize fixedPlaces z = y at r m ⊢
  have t : taken D y (ix3 g k l) = Scalar.select (broadcastInDim S64x100x256 ![0, 1] bcast_S64x100_S64x100x256_0_1 (inside y) (ix3 g k l))
      (Host.gather gather_S64x512x256_S64x100x1_S64x100x256_2_1_0_0_1_2_11256 D y (ix3 g k l)) (Ideal.ofBits .f32 0x7FC00000#32) := rfl
  have b : broadcastInDim S64x100x256 ![0, 1] bcast_S64x100_S64x100x256_0_1 (inside y) (ix3 g k l) = inside y (ix2 g k) := by
    generalize inside y = Y
    pointwise []
  rw [t, b, m, r]
  rfl

end Cert.ReferenceProof
-- ==== Proof.RefGraph.lean ====
/- What the reference computes for one graph, over that graph's nodes. -/
module

public import proofs.«01_k».proof.Proof.RefRead
public import proofs.«01_k».proof.Proof.RefAttn
public import proofs.«01_k».proof.Proof.RefTaken

@[expose] public section

set_option maxRecDepth 16384

noncomputable section

namespace Cert.ReferenceProof

open Cert.ReferenceIdeal Cert.ReferenceIdeal.Gen Cert.PoolProof
open Idealize.ShloMosaic Idealize.ShloMosaic.TcCoe Idealize.SL.Sem

/-- A word per selected row, as one column. -/
theorem oneCol_at (W : IVec S64x100 32) (g : Fin 64) (k : Fin 100) :
    broadcastInDim S64x100x1 ![0, 1] bcast_S64x100_S64x100x1_0_1 W (ix3 g k 0) = W (ix2 g k) := by
  pointwise []

/-- The place that the `k`-th largest score of a graph has. -/
theorem topPlaces_at (S : FVec Ideal S64x512 .f32) (g : Fin 64) (k : Fin 100) (k' : Fin 512) (hk : k'.val = k.val) :
    topPlaces S (ix3 g k 0) = BitVec.ofNat 32 (order S g k').val :=
  (oneCol_at _ g k).trans (top_places S g k k' hk)

/-- The `k`-th largest score of a graph. -/
theorem topScores_at (S : FVec Ideal S64x512 .f32) (g : Fin 64) (k : Fin 100) (k' : Fin 512) (hk : k'.val = k.val) :
    topScores S (ix2 g k) = S (ix2 g (order S g k')) := top_values S g k k' hk

variable (batch : IVec S10000 32) (H : Keys (nbOf batch)) (sc : FVec Ideal S10000 .f32) (X : FVec Ideal S10000x256 .f32)

/-- The score at a node's place. -/
theorem scores_node (g : Fin 64) (i : Node (nbOf batch) g.val) : scoresAt batch sc (ix2 g (H.slot g.isLt i)) = sc (ix1 i.val) :=
  cells_node batch H _ _ g i

include H in
/-- The score at a place without a node is at most the floor. -/
theorem scores_off (g : Fin 64) (y : Fin 512) (hy : ∀ i : Node (nbOf batch) g.val, H.slot g.isLt i ≠ y) :
    scoresAt batch sc (ix2 g y) ≤ floorScore :=
  (cells_off batch H _ _ g y hy).trans_le fill_le

/-- The row at a node's place. -/
theorem rows_node (g : Fin 64) (i : Node (nbOf batch) g.val) (l : Fin 256) :
    rowsAt batch X (ix3 g (H.slot g.isLt i) l) = X (ix2 i.val l) :=
  lines_node batch H _ _ g i l

include H in
/-- The row at a place without a node is zero. -/
theorem rows_off (g : Fin 64) (y : Fin 512) (hy : ∀ i : Node (nbOf batch) g.val, H.slot g.isLt i ≠ y) (l : Fin 256) :
    rowsAt batch X (ix3 g y l) = 0 :=
  (lines_off batch H _ _ g y hy l).trans (Ideal.ofBits_zero .f32)

/-- The flag at a node's place is set. -/
theorem nodes_node (g : Fin 64) (i : Node (nbOf batch) g.val) : nodesAt batch (ix2 g (H.slot g.isLt i)) = 1#1 :=
  cells_node batch H _ _ g i

include H in
/-- The flag at a place without a node is not set. -/
theorem nodes_off (g : Fin 64) (y : Fin 512) (hy : ∀ i : Node (nbOf batch) g.val, H.slot g.isLt i ≠ y) :
    nodesAt batch (ix2 g y) = 0#1 :=
  cells_off batch H _ _ g y hy

/-- Within one graph no two nodes have the same score. -/
def Apart : Prop := ∀ (g : Fin 64) (i j : Node (nbOf batch) g.val), sc (ix1 i.val) = sc (ix1 j.val) → i = j

variable (A : Apart batch sc)
include H A

/-- The reference's `k`-th selected row of a graph is the pooled row of the node kept as number `k`. -/
theorem gated_graph (g : Fin 64) (k : Fin 100) (l : Fin 256) :
    gated (taken (rowsAt batch X) (fixedPlaces (topPlaces (scoresAt batch sc)))) (topScores (scoresAt batch sc)) (ix3 g k l) =
      pooled (fun i : Node (nbOf batch) g.val => sc (ix1 i.val)) (fun i => X (ix2 i.val l)) k.val := by
  have hk : k.val < 512 := lt_trans k.isLt (by norm_num)
  rw [gated_at, taken_at _ _ g k l (order (scoresAt batch sc) g ⟨k.val, hk⟩) (topPlaces_at _ g k ⟨k.val, hk⟩ rfl),
    topScores_at _ g k ⟨k.val, hk⟩ rfl]
  have hn := scores_node batch H sc g
  have ho := scores_off batch H sc g
  have hx := rows_node batch H X g
  generalize scoresAt batch sc = S at hn ho ⊢
  refine (pooled_sorted (fun y => S (ix2 g y)) (fun y => rowsAt batch X (ix3 g y l)) ?_ (order S g) (order_bij S g)
    (order_sorted S g) ⟨k.val, hk⟩).trans ?_
  · intro a b ha hab
    obtain ⟨i, rfl⟩ := node_of_above (H.slot g.isLt) (H.slot_inj g.isLt) (fun y => S (ix2 g y)) ho a ha
    obtain ⟨j, rfl⟩ := node_of_above (H.slot g.isLt) (H.slot_inj g.isLt) (fun y => S (ix2 g y)) ho b (lt_of_lt_of_eq ha hab)
    have hab' : S (ix2 g (H.slot g.isLt i)) = S (ix2 g (H.slot g.isLt j)) := hab
    rw [hn, hn] at hab'
    rw [A g i j hab']
  · refine (pooled_places (H.slot g.isLt) (H.slot_inj g.isLt) (fun y => S (ix2 g y)) ho _ _).trans ?_
    exact congrArg₂ (fun s x => pooled s x k.val) (funext hn) (funext fun i => hx i l)

/-- The reference's queries. -/
theorem queries_graph (wq : FVec Ideal S256x256 .f32) (bq : FVec Ideal S256 .f32) (g : Fin 64) (k : Fin 100) (l : Fin 256) :
    queriesR batch sc X wq bq (ix3 g k l) = query (fun i : Node (nbOf batch) g.val => sc (ix1 i.val)) (fun i e => X (ix2 i.val e))
      (fun e l => wq (ix2 e l)) (fun l => bq (ix1 l)) k.val l := by
  unfold queriesR
  rw [denseRows_at]
  exact congrArg (fun x => dense x (fun e l => wq (ix2 e l)) (fun l => bq (ix1 l)) l) (funext fun e => gated_graph batch H sc X A g k e)

omit A in
/-- Queries with their attention over the nodes of the graph. -/
theorem mixed_graph (Q : FVec Ideal S64x100x256 .f32) (K V : FVec Ideal S10000x256 .f32) (g : Fin 64) (k : Fin 100) (l : Fin 256) :
    mixedR Q (exps (logits (nodesAt batch) Q (rowsAt batch K))) (rowsAt batch V) (ix3 g k l) =
      mixed (fun l => Q (ix3 g k l)) (fun (i : Node (nbOf batch) g.val) l => K (ix2 i.val l)) (fun i l => V (ix2 i.val l)) l := by
  have hm : l.val % 64 < 64 := Nat.mod_lt _ (by norm_num)
  have hc : col (headOf l) ⟨l.val % 64, hm⟩ = l := Fin.ext (by
    show l.val / 64 * 64 + l.val % 64 = l.val
    omega)
  rw [mixedR_at _ _ _ g k l ⟨l.val % 64, hm⟩ hc, attended_at, hc]
  unfold mixed attend
  refine congrArg (Q (ix3 g k l) + ·) ?_
  simp only [exps_at]
  refine (soft_places (H.slot g.isLt) (H.slot_inj g.isLt)
    (fun y => logits (nodesAt batch) Q (rowsAt batch K) (ix4 g (headOf l) k y)) (fun y => rowsAt batch V (ix3 g y l)) ?_ ?_).trans ?_
  · intro y hy
    show logits (nodesAt batch) Q (rowsAt batch K) (ix4 g (headOf l) k y) = ⊥
    rw [logits_at, nodes_off batch H g y hy]
    rfl
  · intro y hy
    exact rows_off batch H V g y hy l
  · refine congrArg₂ soft (funext fun i => ?_) (funext fun i => rows_node batch H V g i l)
    show logits (nodesAt batch) Q (rowsAt batch K) (ix4 g (headOf l) k (H.slot g.isLt i)) = _
    rw [logits_at, nodes_node batch H g i]
    refine Eq.trans (b := (∑ e, Q (ix3 g k (col (headOf l) e)) * rowsAt batch K (ix3 g (H.slot g.isLt i) (col (headOf l) e))) *
      Ideal.ofBits .f32 0x3E000000#32) rfl ?_
    exact congrArg (· * Ideal.ofBits .f32 0x3E000000#32) (Finset.sum_congr rfl fun e _ => by rw [rows_node batch H])

/-- The reference's result for graph `g`, over that graph's nodes. -/
theorem refOut_graph (wq : FVec Ideal S256x256 .f32) (bq : FVec Ideal S256 .f32) (wk : FVec Ideal S256x256 .f32) (bk : FVec Ideal S256 .f32)
    (wv : FVec Ideal S256x256 .f32) (bv : FVec Ideal S256 .f32) (wo : FVec Ideal S256x256 .f32) (bo : FVec Ideal S256 .f32)
    (wr : FVec Ideal S100 .f32) (br : FVec Ideal S1 .f32) (g : Fin 64) (l : Fin 256) :
    refOut batch sc X wq bq wk bk wv bv wo bo wr br (ix2 g l) =
      graphOut (fun i : Node (nbOf batch) g.val => sc (ix1 i.val)) (fun i e => X (ix2 i.val e))
        (fun e l => wq (ix2 e l)) (fun l => bq (ix1 l)) (fun e l => wk (ix2 e l)) (fun l => bk (ix1 l))
        (fun e l => wv (ix2 e l)) (fun l => bv (ix1 l)) (fun e l => wo (ix2 e l)) (fun l => bo (ix1 l))
        (fun k => wr (ix1 k)) (br (ix1 0)) l := by
  unfold refOut graphOut
  rw [readR_at]
  refine congrArg (· + br (ix1 0)) (Finset.sum_congr rfl fun k _ => congrArg (wr (ix1 k) * ·) ?_)
  have hq : (fun l => queriesR batch sc X wq bq (ix3 g k l)) = query (fun i : Node (nbOf batch) g.val => sc (ix1 i.val))
      (fun i e => X (ix2 i.val e)) (fun e l => wq (ix2 e l)) (fun l => bq (ix1 l)) k.val :=
    funext fun l => queries_graph batch H sc X A wq bq g k l
  have ha : ∀ (w : FVec Ideal S256x256 .f32) (b : FVec Ideal S256 .f32),
      (fun (i : Node (nbOf batch) g.val) l => denseAll X w b (ix2 i.val l)) =
        fun i => dense (fun e => X (ix2 i.val e)) (fun e l => w (ix2 e l)) (fun l => b (ix1 l)) :=
    fun w b => funext fun i => funext fun l => denseAll_at X w b i.val l
  have hm : ∀ l, mixedR (queriesR batch sc X wq bq) (exps (logits (nodesAt batch) (queriesR batch sc X wq bq)
      (rowsAt batch (denseAll X wk bk)))) (rowsAt batch (denseAll X wv bv)) (ix3 g k l) = _ :=
    fun l => (mixed_graph batch H _ _ _ g k l).trans (by rw [hq, ha, ha])
  unfold layered
  simp only [hm]
  rfl

end Cert.ReferenceProof
-- ==== Proof.Output.lean ====
/- The kernel's result for one graph, over that graph's nodes. -/
module

public import proofs.«01_k».proof.Proof.BlockOut
public import proofs.«01_k».proof.Proof.KernelScore
public import proofs.«01_k».proof.Proof.RefGraph

@[expose] public section

set_option maxRecDepth 16384

noncomputable section

namespace Cert.KernelIdealProof

open Cert.KernelIdeal Cert.KernelIdeal.Gen Cert.PoolProof
open Idealize.ShloMosaic Idealize.ShloMosaic.TcCoe Idealize.SL.Sem

open Cert.ReferenceProof (nbOf Apart scoreVec)

/-- Keys that are not negative are counted as they are. -/
theorem graphOf_eq (batch : IVec S10000 32) (H : Keys (nbOf batch)) : graphOf batch = nbOf batch := by
  funext i
  have e : graphWords batch (ix2 i 0) = Cert.ReferenceProof.asCol (Cert.ReferenceProof.fixed 64#32 batch) (ix2 i 0) := rfl
  unfold graphOf
  rw [e, Cert.ReferenceProof.asCol_at, Cert.ReferenceProof.fixed_at _ _ _ (H.nonneg i)]
  rfl

variable (m : (ℓ : Loc nD τ sig) → Buf (Elt Ideal) ℓ)

/-- The scores of a launch's arguments. -/
def launchScores : FVec Ideal S10000 .f32 :=
  scoreVec (m (0, Proc.tc.devRef main_arg0)) (m (0, Proc.tc.devRef main_arg1)) (m (0, Proc.tc.devRef main_arg3))
    (m (0, Proc.tc.devRef main_arg4)) (m (0, Proc.tc.devRef main_arg5)) (m (0, Proc.tc.devRef main_arg6))

/-- An entry of the launch's list of scores is the entry of the column of scores. -/
theorem launchScores_at (n : Fin 10000) : launchScores m (ix1 n) = scores m (ix2 n 0) := by
  rw [scores_eq]
  exact Cert.ReferenceProof.scoreVec_at _ _ _ _ _ _ n

/-- A node's row of the padded rows. -/
theorem rowAt_node (batch : IVec S10000 32) (H : Keys (nbOf batch)) (g : Fin 64) (i : Node (nbOf batch) g.val) :
    i.val.val = (rowAt (start (nbOf batch) g.val) (H.wslot g.isLt i)).val := by
  have h := H.wslot_row g.isLt i
  have hi := i.val.isLt
  show i.val.val = min (start (nbOf batch) g.val / 8 * 8 + (H.wslot g.isLt i).val) 10751
  omega

variable (H : Keys (nbOf (batchOf m))) (A : Apart (batchOf m) (launchScores m))
include H A

/-- The kernel's result for graph `g`, over that graph's nodes. -/
theorem kernelOut_graph (g : Fin 64) (l : Fin 256) :
    kernelOut m 0 (ix2 g l) =
      graphOut (fun i : Node (nbOf (batchOf m)) g.val => launchScores m (ix1 i.val))
        (fun i e => (m (0, Proc.tc.devRef main_arg0) : FVec Ideal S10000x256 .f32) (ix2 i.val e))
        (fun e l => (m (0, Proc.tc.devRef main_arg7) : FVec Ideal S256x256 .f32) (ix2 e l))
        (fun l => (m (0, Proc.tc.devRef main_arg8) : FVec Ideal S256 .f32) (ix1 l))
        (fun e l => (m (0, Proc.tc.devRef main_arg9) : FVec Ideal S256x256 .f32) (ix2 e l))
        (fun l => (m (0, Proc.tc.devRef main_arg10) : FVec Ideal S256 .f32) (ix1 l))
        (fun e l => (m (0, Proc.tc.devRef main_arg11) : FVec Ideal S256x256 .f32) (ix2 e l))
        (fun l => (m (0, Proc.tc.devRef main_arg12) : FVec Ideal S256 .f32) (ix1 l))
        (fun e l => (m (0, Proc.tc.devRef main_arg13) : FVec Ideal S256x256 .f32) (ix2 e l))
        (fun l => (m (0, Proc.tc.devRef main_arg14) : FVec Ideal S256 .f32) (ix1 l))
        (fun k => (m (0, Proc.tc.devRef main_arg15) : FVec Ideal S100 .f32) (ix1 k))
        ((m (0, Proc.tc.devRef main_arg16) : FVec Ideal S1 .f32) (ix1 0)) l := by
  have hg := graphOf_eq (batchOf m) H
  show graphBlk m 0 g (ix3 0 0 l) = _
  unfold graphBlk
  rw [hg, Gen.V_main_arg7, Gen.V_main_arg9, Gen.V_main_arg11, Gen.V_main_arg13]
  have b8 := bias8_at m
  have b10 := bias10_at m
  have b12 := bias12_at m
  have b14 := bias14_at m
  have hx := rows_node m
  have hs := padScores_node m
  have hr := readout_at m
  have hz := readout_past m
  have hb := readoutBias_at m
  generalize V m 0 main_v81 = X at hx ⊢
  generalize V m 0 main_v84 = S at hs ⊢
  generalize V m 0 main_v91 = v91 at b8 ⊢
  generalize V m 0 main_v92 = v92 at b10 ⊢
  generalize V m 0 main_v93 = v93 at b12 ⊢
  generalize V m 0 main_v94 = v94 at b14 ⊢
  generalize V m 0 main_v89 = v89 at hr hz ⊢
  generalize V m 0 main_v90 = v90 at hb ⊢
  have hn := start_add_cnt_le (nbOf (batchOf m)) g.val
  refine (blk_nodes (H.wslot g.isLt) (H.wslot_inj g.isLt) _ _ (by omega) (by omega) (H.wslot_range g.isLt) _ _ _ _ _ _ _ _ _ _ _ _
    (fun i => launchScores m (ix1 i.val))
    (fun i e => (m (0, Proc.tc.devRef main_arg0) : FVec Ideal S10000x256 .f32) (ix2 i.val e)) ?_ ?_ (A g)
    (fun k => (m (0, Proc.tc.devRef main_arg15) : FVec Ideal S100 .f32) (ix1 k)) ?_ hz l).trans ?_
  · intro i
    rw [launchScores_at]
    exact hs i.val _ (rowAt_node _ H g i)
  · intro i e
    exact hx i.val _ (rowAt_node _ H g i) e
  · intro k
    exact hr _ k rfl
  · simp only [b8, b10, b12, b14, hb]

end Cert.KernelIdealProof
-- ==== Proof.Inputs.lean ====
/- What well-posed inputs give: keys from 0 to 63 in increasing order, none more than 512 times, and scores that differ within
   a graph. -/
module

public import proofs.«01_k».proof.Proof.RefGraph
public import proofs.«01_k».proof.Proof.RefScore
public import proofs.«01_k».proof.Proof.Gen.Pre_well_posed

@[expose] public section

set_option maxRecDepth 16384

noncomputable section

namespace Cert.InputsProof

open Cert.Pre_well_posed Cert.Pre_well_posed.Gen Cert.PoolProof
open Idealize.ShloMosaic Idealize.ShloMosaic.TcCoe Idealize.SL.Sem

/-- Keys in range. -/
def rangeFlags (b : IVec S10000 32) : IVec S10000 1 :=
  andi (cmpi .sge b (broadcastInDim S10000 ![] bcast_S_S10000 (constantI S_ 32 0#32)))
    (cmpi .slt b (broadcastInDim S10000 ![] bcast_S_S10000 (constantI S_ 32 64#32)))

/-- Each key against the next. -/
def nextFlags (b : IVec S10000 32) : IVec S9999 1 :=
  cmpi .sle (extractStridedSlice S9999 ![0] b slices_S10000_S9999_0) (extractStridedSlice S9999 ![1] b slices_S10000_S9999_1)

/-- Each key against the one 512 places on. -/
def farFlags (b : IVec S10000 32) : IVec S9488 1 :=
  cmpi .slt (extractStridedSlice S9488 ![0] b slices_S10000_S9488_0) (extractStridedSlice S9488 ![512] b slices_S10000_S9488_512)

/-- An entry per node along rows. -/
def downI (b : IVec S10000 32) : IVec S10000x10000 32 :=
  broadcastInDim S10000x10000 ![0, 1] bcast_S10000x1_S10000x10000_0_1 (broadcastInDim S10000x1 ![0] bcast_S10000_S10000x1_0 b)

/-- An entry per node along columns. -/
def acrossI (b : IVec S10000 32) : IVec S10000x10000 32 :=
  broadcastInDim S10000x10000 ![0, 1] bcast_S1x10000_S10000x10000_0_1 (broadcastInDim S1x10000 ![1] bcast_S10000_S1x10000_1 b)

/-- A score per node along rows. -/
def downF (s : FVec Ideal S10000 .f32) : FVec Ideal S10000x10000 .f32 :=
  broadcastInDim S10000x10000 ![0, 1] bcast_S10000x1_S10000x10000_0_1 (broadcastInDim S10000x1 ![0] bcast_S10000_S10000x1_0 s)

/-- A score per node along columns. -/
def acrossF (s : FVec Ideal S10000 .f32) : FVec Ideal S10000x10000 .f32 :=
  broadcastInDim S10000x10000 ![0, 1] bcast_S1x10000_S10000x10000_0_1 (broadcastInDim S1x10000 ![1] bcast_S10000_S1x10000_1 s)

/-- Each pair of nodes: different scores, different graphs, or one node. -/
def apartFlags (b : IVec S10000 32) (s : FVec Ideal S10000 .f32) : IVec S10000x10000 1 :=
  ori (ori (cmpf .une (downF s) (acrossF s)) (cmpi .ne (downI b) (acrossI b)))
    (cmpi .eq (downI (iotaInDim S10000 32 0)) (acrossI (iotaInDim S10000 32 0)))

set_option maxHeartbeats 1600000 in
/-- The four conditions. -/
theorem fn_eq (x : FVec Ideal S10000x256 .f32) (ei : IVec S2x160000 32) (b : IVec S10000 32) (w1 : FVec Ideal S256x1 .f32)
    (b1 : FVec Ideal S1 .f32) (w2 : FVec Ideal S256x1 .f32) (b2 : FVec Ideal S1 .f32) (wq : FVec Ideal S256x256 .f32) (bq : FVec Ideal S256 .f32)
    (wk : FVec Ideal S256x256 .f32) (bk : FVec Ideal S256 .f32) (wv : FVec Ideal S256x256 .f32) (bv : FVec Ideal S256 .f32)
    (wo : FVec Ideal S256x256 .f32) (bo : FVec Ideal S256 .f32) (wr : FVec Ideal S100 .f32) (br : FVec Ideal S1 .f32) :
    fn (F := Ideal) x ei b w1 b1 w2 b2 wq bq wk bk wv bv wo bo wr br =
      (rangeFlags b, nextFlags b, farFlags b, apartFlags b (Cert.ReferenceProof.scoreVec x ei w1 b1 w2 b2)) := rfl

/-- The four conditions, each of its arrays. -/
theorem flags_of (x : FVec Ideal S10000x256 .f32) (ei : IVec S2x160000 32) (b : IVec S10000 32) (w1 : FVec Ideal S256x1 .f32)
    (b1 : FVec Ideal S1 .f32) (w2 : FVec Ideal S256x1 .f32) (b2 : FVec Ideal S1 .f32) (wq : FVec Ideal S256x256 .f32) (bq : FVec Ideal S256 .f32)
    (wk : FVec Ideal S256x256 .f32) (bk : FVec Ideal S256 .f32) (wv : FVec Ideal S256x256 .f32) (bv : FVec Ideal S256 .f32)
    (wo : FVec Ideal S256x256 .f32) (bo : FVec Ideal S256 .f32) (wr : FVec Ideal S100 .f32) (br : FVec Ideal S1 .f32)
    (h : (fn (F := Ideal) x ei b w1 b1 w2 b2 wq bq wk bk wv bv wo bo wr br).1 = (fun _ => 1#1) ∧ (fn (F := Ideal) x ei b w1 b1 w2 b2 wq bq wk bk wv bv wo bo wr br).2.1 = (fun _ => 1#1) ∧
      (fn (F := Ideal) x ei b w1 b1 w2 b2 wq bq wk bk wv bv wo bo wr br).2.2.1 = (fun _ => 1#1) ∧ (fn (F := Ideal) x ei b w1 b1 w2 b2 wq bq wk bk wv bv wo bo wr br).2.2.2 = (fun _ => 1#1)) :
    (rangeFlags b = fun _ => 1#1) ∧ (nextFlags b = fun _ => 1#1) ∧ (farFlags b = fun _ => 1#1) ∧
      (apartFlags b (Cert.ReferenceProof.scoreVec x ei w1 b1 w2 b2) = fun _ => 1#1) := by
  rw [fn_eq] at h
  exact h

/-- If the conjunction of two flags is set, both are. -/
theorem both {x y : BitVec 1} (h : IntOp.andi x y = 1#1) : x = 1#1 ∧ y = 1#1 := by
  revert x y; decide

/-- If the disjunction of two flags is set, one of them is. -/
theorem either {x y : BitVec 1} (h : IntOp.ori x y = 1#1) : x = 1#1 ∨ y = 1#1 := by
  revert x y; decide

/-- A set flag of a decided statement gives the statement. -/
theorem flag {p : Prop} [Decidable p] (h : BitVec.ofBool (decide p) = 1#1) : p := by
  by_contra hp
  rw [decide_eq_false hp] at h
  exact absurd h (by decide)

/-- If all range flags are set, every key is in [0, 64). -/
theorem range_of (b : IVec S10000 32) (h : rangeFlags b = fun _ => 1#1) (i : Fin 10000) :
    0 ≤ (b (ix1 i)).toInt ∧ (b (ix1 i)).toInt < 64 := by
  have e : IntOp.andi (BitVec.ofBool (decide ((0#32).toInt ≤ (b (ix1 i)).toInt))) (BitVec.ofBool (decide ((b (ix1 i)).toInt < (64#32).toInt))) = 1#1 :=
    congrFun h (ix1 i)
  exact ⟨flag (both e).1, flag (both e).2⟩

/-- If all flags of neighbours are set, a key is at most the next one. -/
theorem next_of (b : IVec S10000 32) (h : nextFlags b = fun _ => 1#1) (i j : Fin 10000) (hj : j.val = i.val + 1) :
    (b (ix1 i)).toInt ≤ (b (ix1 j)).toInt := by
  have hi : i.val < 9999 := by omega
  have e := congrFun h (ix1 ⟨i.val, hi⟩)
  unfold nextFlags at e
  have e0 : extractStridedSlice S9999 ![0] b slices_S10000_S9999_0 (ix1 ⟨i.val, hi⟩) = b (ix1 i) :=
    congrArg b (eq_ix1 _ |>.trans (congrArg ix1 (Fin.ext (Nat.zero_add _))))
  have e1 : extractStridedSlice S9999 ![1] b slices_S10000_S9999_1 (ix1 ⟨i.val, hi⟩) = b (ix1 j) :=
    congrArg b (eq_ix1 _ |>.trans (congrArg ix1 (Fin.ext ((Nat.add_comm _ _).trans hj.symm))))
  have e2 : BitVec.ofBool (decide ((extractStridedSlice S9999 ![0] b slices_S10000_S9999_0 (ix1 ⟨i.val, hi⟩)).toInt ≤
    (extractStridedSlice S9999 ![1] b slices_S10000_S9999_1 (ix1 ⟨i.val, hi⟩)).toInt)) = 1#1 := e
  rw [e0, e1] at e2
  exact flag e2

/-- If all flags of far keys are set, a key is below the one 512 places on. -/
theorem far_of (b : IVec S10000 32) (h : farFlags b = fun _ => 1#1) (i j : Fin 10000) (hj : j.val = i.val + 512) :
    (b (ix1 i)).toInt < (b (ix1 j)).toInt := by
  have hi : i.val < 9488 := by omega
  have e := congrFun h (ix1 ⟨i.val, hi⟩)
  unfold farFlags at e
  have e0 : extractStridedSlice S9488 ![0] b slices_S10000_S9488_0 (ix1 ⟨i.val, hi⟩) = b (ix1 i) :=
    congrArg b (eq_ix1 _ |>.trans (congrArg ix1 (Fin.ext (Nat.zero_add _))))
  have e1 : extractStridedSlice S9488 ![512] b slices_S10000_S9488_512 (ix1 ⟨i.val, hi⟩) = b (ix1 j) :=
    congrArg b (eq_ix1 _ |>.trans (congrArg ix1 (Fin.ext ((Nat.add_comm _ _).trans hj.symm))))
  have e2 : BitVec.ofBool (decide ((extractStridedSlice S9488 ![0] b slices_S10000_S9488_0 (ix1 ⟨i.val, hi⟩)).toInt <
    (extractStridedSlice S9488 ![512] b slices_S10000_S9488_512 (ix1 ⟨i.val, hi⟩)).toInt)) = 1#1 := e
  rw [e0, e1] at e2
  exact flag e2

/-- An entry of the array that repeats the keys along rows. -/
theorem downI_at (b : IVec S10000 32) (i j : Fin 10000) : downI b (ix2 i j) = b (ix1 i) := by
  pointwise [downI]

/-- An entry of the array that repeats the keys along columns. -/
theorem acrossI_at (b : IVec S10000 32) (i j : Fin 10000) : acrossI b (ix2 i j) = b (ix1 j) := by
  pointwise [acrossI]

/-- An entry of the array that repeats the scores along rows. -/
theorem downF_at (s : FVec Ideal S10000 .f32) (i j : Fin 10000) : downF s (ix2 i j) = s (ix1 i) := by
  pointwise [downF]

/-- An entry of the array that repeats the scores along columns. -/
theorem acrossF_at (s : FVec Ideal S10000 .f32) (i j : Fin 10000) : acrossF s (ix2 i j) = s (ix1 j) := by
  pointwise [acrossF]

/-- A set flag of a pair: the scores differ, the graphs differ, or the nodes are one. -/
theorem flags_at (P Q : FVec Ideal S10000x10000 .f32) (A B C D : IVec S10000x10000 32)
    (y : S10000x10000.Idx) (h : ori (ori (cmpf .une P Q) (cmpi .ne A B)) (cmpi .eq C D) y = 1#1) : (P y ≠ Q y ∨ A y ≠ B y) ∨ C y = D y := by
  have e : IntOp.ori (IntOp.ori (BitVec.ofBool (decide (P y ≠ Q y))) (BitVec.ofBool (A y != B y))) (BitVec.ofBool (C y == D y)) = 1#1 := h
  rcases either e with e | e
  · rcases either e with e | e
    · exact Or.inl (Or.inl (flag e))
    · refine Or.inl (Or.inr fun hn => ?_)
      rw [hn, bne_self_eq_false] at e
      exact absurd e (by decide)
  · by_contra hn
    rw [beq_eq_false_iff_ne.2 fun hc => hn (Or.inr hc)] at e
    exact absurd e (by decide)

/-- If all flags of pairs are set, two nodes of one graph with one score are the same node. -/
theorem apart_of (b : IVec S10000 32) (s : FVec Ideal S10000 .f32) (h : apartFlags b s = fun _ => 1#1) (i j : Fin 10000)
    (hb : b (ix1 i) = b (ix1 j)) (hs : s (ix1 i) = s (ix1 j)) : i = j := by
  have e := flags_at _ _ _ _ _ _ (ix2 i j) (congrFun h (ix2 i j))
  rw [downF_at, acrossF_at, downI_at, acrossI_at, downI_at, acrossI_at] at e
  rcases e with (e | e) | e
  · exact absurd hs e
  · exact absurd hb e
  · have e' : BitVec.ofNat 32 i.val = BitVec.ofNat 32 j.val := e
    have := congrArg BitVec.toNat e'
    rw [BitVec.toNat_ofNat, BitVec.toNat_ofNat] at this
    have hi := i.isLt
    have hj := j.isLt
    exact Fin.ext (by omega)

open Cert.ReferenceProof in
/-- The keys of well-posed inputs. -/
theorem keys_of (b : IVec S10000 32) (hr : rangeFlags b = fun _ => 1#1) (hn : nextFlags b = fun _ => 1#1)
    (hf : farFlags b = fun _ => 1#1) : Keys (nbOf b) := by
  have mono : ∀ i j : Fin 10000, i ≤ j → nbOf b i ≤ nbOf b j := by
    have key : ∀ (d : ℕ) (i j : Fin 10000), j.val = i.val + d → nbOf b i ≤ nbOf b j := by
      intro d
      induction d with
      | zero => intro i j h; rw [show i = j from Fin.ext h.symm]
      | succ d ih =>
        intro i j h
        have hlt : i.val + d < 10000 := by omega
        exact (ih i ⟨i.val + d, hlt⟩ rfl).trans (next_of b hn ⟨i.val + d, hlt⟩ j h)
    intro i j h
    exact key (j.val - i.val) i j (by have : i.val ≤ j.val := h; omega)
  have nonneg : ∀ i, 0 ≤ nbOf b i := fun i => (range_of b hr i).1
  refine ⟨nonneg, fun i => (range_of b hr i).2, mono, fun k _ => ?_⟩
  by_contra hc
  have hle := start_add_cnt_le (nbOf b) k
  have hs : start (nbOf b) k < 10000 := by omega
  have ht : start (nbOf b) k + 512 < 10000 := by omega
  have h1 := (mem_run (nbOf b) mono nonneg k ⟨start (nbOf b) k, hs⟩).not.1 (by simp)
  have h2 := (mem_run (nbOf b) mono nonneg (k + 1) ⟨start (nbOf b) k + 512, ht⟩).1 (by
    rw [start_succ]
    show start (nbOf b) k + 512 < _
    omega)
  have h3 : nbOf b ⟨start (nbOf b) k, hs⟩ < nbOf b ⟨start (nbOf b) k + 512, ht⟩ :=
    far_of b hf ⟨start (nbOf b) k, hs⟩ ⟨start (nbOf b) k + 512, ht⟩ rfl
  push_cast at h2
  omega

open Cert.ReferenceProof in
/-- The scores of well-posed inputs differ within a graph. -/
theorem apart (b : IVec S10000 32) (s : FVec Ideal S10000 .f32) (h : apartFlags b s = fun _ => 1#1) : Apart b s := fun _ i j hij =>
  Subtype.ext (apart_of b s h i.val j.val (BitVec.eq_of_toInt_eq (i.property.trans j.property.symm)) hij)

end Cert.InputsProof
-- ==== Proof.RefRun.lean ====
/- The reference's run ends with the parts put together. -/
module

public import proofs.«01_k».proof.Proof.RefScore

@[expose] public section

set_option maxRecDepth 16384

noncomputable section

namespace Cert.ReferenceProof

open Cert.ReferenceIdeal Cert.ReferenceIdeal.Gen Cert.PoolProof Cert.ReferenceIdeal.Value
open Idealize.ShloMosaic Idealize.ShloMosaic.TcCoe Idealize.SL.Sem

variable (V0 : Valuation τ sig (Elt Ideal))

/-- The scores of the reference's arguments. -/
def scoreOf : FVec Ideal S10000 .f32 :=
  scoreVec (V0 (Proc.devRef .tc main_arg0)) (V0 (Proc.devRef .tc main_arg1)) (V0 (Proc.devRef .tc main_arg3))
    (V0 (Proc.devRef .tc main_arg4)) (V0 (Proc.devRef .tc main_arg5)) (V0 (Proc.devRef .tc main_arg6))

/-- The degrees of the reference's arguments. -/
theorem v24_eq : res_main_v24 V0 = degrees (targets (V0 (Proc.devRef .tc main_arg1))) := rfl

/-- The local scores before the spread, of the reference's arguments. -/
theorem v11_eq : res_main_v11 V0 = oneOut (V0 (Proc.devRef .tc main_arg0)) (V0 (Proc.devRef .tc main_arg5)) (V0 (Proc.devRef .tc main_arg6)) := rfl

/-- The places of the nodes, of the reference's arguments. -/
theorem v91_eq : res_main_v91 V0 = posR (V0 (Proc.devRef .tc main_arg2)) := rfl

/-- The scores by graph and place. -/
theorem v137_eq : res_main_v137 V0 = scoresAt (V0 (Proc.devRef .tc main_arg2)) (scoreOf V0) := by
  unfold res_main_v137
  rw [v24_eq, v11_eq, v91_eq]
  exact rfl

/-- The largest scores of each graph. -/
theorem values_eq : res_main_values V0 = topScores (scoresAt (V0 (Proc.devRef .tc main_arg2)) (scoreOf V0)) := by
  unfold res_main_values
  rw [v137_eq]
  exact rfl

/-- The places of the largest scores of each graph. -/
theorem v140_eq : res_main_v140 V0 = topPlaces (scoresAt (V0 (Proc.devRef .tc main_arg2)) (scoreOf V0)) := by
  unfold res_main_v140
  rw [v137_eq]
  exact rfl

/-- The places of the largest scores, brought into range. -/
theorem call3_eq : res_main_call3_v4 V0 = fixedPlaces (topPlaces (scoresAt (V0 (Proc.devRef .tc main_arg2)) (scoreOf V0))) := by
  unfold res_main_call3_v4
  rw [v140_eq]
  exact rfl

/-- The queries of the reference's arguments. -/
def queriesOf : FVec Ideal S64x100x256 .f32 :=
  queriesR (V0 (Proc.devRef .tc main_arg2)) (scoreOf V0) (V0 (Proc.devRef .tc main_arg0)) (V0 (Proc.devRef .tc main_arg7))
    (V0 (Proc.devRef .tc main_arg8))

/-- The queries are those of the arguments. -/
theorem v153_eq : res_main_v153 V0 = queriesOf V0 := by
  unfold res_main_v153
  rw [call3_eq, values_eq, v91_eq]
  exact rfl

/-- The masked logits of the reference's arguments. -/
def logitsOf : FVec Ideal S64x4x100x512 .f32 :=
  logits (nodesAt (V0 (Proc.devRef .tc main_arg2))) (queriesOf V0) (rowsAt (V0 (Proc.devRef .tc main_arg2))
    (denseAll (V0 (Proc.devRef .tc main_arg0)) (V0 (Proc.devRef .tc main_arg9)) (V0 (Proc.devRef .tc main_arg10))))

/-- The logits are those of the arguments. -/
theorem v204_eq : res_main_v204 V0 = logitsOf V0 := by
  unfold res_main_v204
  rw [v153_eq, v91_eq]
  exact rfl

/-- The weights are those of the logits. -/
theorem v211_eq : res_main_v211 V0 = exps (logitsOf V0) := by
  unfold res_main_v211
  rw [v204_eq]
  exact rfl

/-- The queries with their attention. -/
theorem v219_eq : res_main_v219 V0 = mixedR (queriesOf V0) (exps (logitsOf V0)) (rowsAt (V0 (Proc.devRef .tc main_arg2))
    (denseAll (V0 (Proc.devRef .tc main_arg0)) (V0 (Proc.devRef .tc main_arg11)) (V0 (Proc.devRef .tc main_arg12)))) := by
  unfold res_main_v219
  rw [v211_eq, v153_eq, v91_eq]
  exact rfl

/-- The reference's result of its arguments. -/
def resultOf : FVec Ideal S64x256 .f32 :=
  refOut (V0 (Proc.devRef .tc main_arg2)) (scoreOf V0) (V0 (Proc.devRef .tc main_arg0)) (V0 (Proc.devRef .tc main_arg7))
    (V0 (Proc.devRef .tc main_arg8)) (V0 (Proc.devRef .tc main_arg9)) (V0 (Proc.devRef .tc main_arg10)) (V0 (Proc.devRef .tc main_arg11))
    (V0 (Proc.devRef .tc main_arg12)) (V0 (Proc.devRef .tc main_arg13)) (V0 (Proc.devRef .tc main_arg14)) (V0 (Proc.devRef .tc main_arg15))
    (V0 (Proc.devRef .tc main_arg16))

/-- The readout of the queries with their attention is the result of the arguments. -/
theorem result_eq : readR (res_main_v219 V0) (V0 (Proc.devRef .tc main_arg13)) (V0 (Proc.devRef .tc main_arg14))
    (V0 (Proc.devRef .tc main_arg15)) (V0 (Proc.devRef .tc main_arg16)) = resultOf V0 := by
  rw [v219_eq]
  exact rfl

/-- The reference's result, its arguments given. -/
theorem resultOf_eq (m : (ℓ : Loc nD τ sig) → Buf (Elt Ideal) ℓ) (c : Dev nD)
    (X0 : FVec Ideal S10000x256 .f32) (X1 : IVec S2x160000 32) (X2 : IVec S10000 32) (X3 : FVec Ideal S256x1 .f32) (X4 : FVec Ideal S1 .f32) (X5 : FVec Ideal S256x1 .f32) (X6 : FVec Ideal S1 .f32) (X7 : FVec Ideal S256x256 .f32) (X8 : FVec Ideal S256 .f32) (X9 : FVec Ideal S256x256 .f32) (X10 : FVec Ideal S256 .f32) (X11 : FVec Ideal S256x256 .f32) (X12 : FVec Ideal S256 .f32) (X13 : FVec Ideal S256x256 .f32) (X14 : FVec Ideal S256 .f32) (X15 : FVec Ideal S100 .f32) (X16 : FVec Ideal S1 .f32)
    (h0 : m ((c.tc : Thread nD τ).loc main_arg0) = X0)
    (h1 : m ((c.tc : Thread nD τ).loc main_arg1) = X1)
    (h2 : m ((c.tc : Thread nD τ).loc main_arg2) = X2)
    (h3 : m ((c.tc : Thread nD τ).loc main_arg3) = X3)
    (h4 : m ((c.tc : Thread nD τ).loc main_arg4) = X4)
    (h5 : m ((c.tc : Thread nD τ).loc main_arg5) = X5)
    (h6 : m ((c.tc : Thread nD τ).loc main_arg6) = X6)
    (h7 : m ((c.tc : Thread nD τ).loc main_arg7) = X7)
    (h8 : m ((c.tc : Thread nD τ).loc main_arg8) = X8)
    (h9 : m ((c.tc : Thread nD τ).loc main_arg9) = X9)
    (h10 : m ((c.tc : Thread nD τ).loc main_arg10) = X10)
    (h11 : m ((c.tc : Thread nD τ).loc main_arg11) = X11)
    (h12 : m ((c.tc : Thread nD τ).loc main_arg12) = X12)
    (h13 : m ((c.tc : Thread nD τ).loc main_arg13) = X13)
    (h14 : m ((c.tc : Thread nD τ).loc main_arg14) = X14)
    (h15 : m ((c.tc : Thread nD τ).loc main_arg15) = X15)
    (h16 : m ((c.tc : Thread nD τ).loc main_arg16) = X16) :
    resultOf (StableHlo.launchContents m c) = refOut X2 (scoreVec X0 X1 X3 X4 X5 X6) X0 X7 X8 X9 X10 X11 X12 X13 X14 X15 X16 := by
  subst h0 h1 h2 h3 h4 h5 h6 h7 h8 h9 h10 h11 h12 h13 h14 h15 h16
  exact rfl

end Cert.ReferenceProof
-- ==== Proof.Equation.lean ====
/- On well-posed inputs the kernel's result is the reference's. -/
module

public import proofs.«01_k».proof.Proof.Frames
public import proofs.«01_k».proof.Proof.Output
public import proofs.«01_k».proof.Proof.Inputs
public import proofs.«01_k».proof.Proof.RefRun

@[expose] public section

set_option maxRecDepth 16384

noncomputable section

namespace Cert.PoolProof

open Idealize.ShloMosaic Idealize.ShloMosaic.TcCoe Idealize.SL.Sem

/-- From arguments that agree and are well posed, the kernel's array of results is the reference's. -/
theorem results_agree (m : (ℓ : Loc Cert.KernelIdeal.nD Cert.KernelIdeal.τ Cert.KernelIdeal.sig) → Buf (Elt Ideal) ℓ)
    (hr : Cert.InputsProof.rangeFlags (Cert.KernelIdealProof.batchOf m) = fun _ => 1#1)
    (hn : Cert.InputsProof.nextFlags (Cert.KernelIdealProof.batchOf m) = fun _ => 1#1)
    (hf : Cert.InputsProof.farFlags (Cert.KernelIdealProof.batchOf m) = fun _ => 1#1)
    (ha : Cert.InputsProof.apartFlags (Cert.KernelIdealProof.batchOf m) (Cert.KernelIdealProof.launchScores m) = fun _ => 1#1)
    (g : Fin 64) (l : Fin 256) :
    Cert.KernelIdealProof.kernelOut m 0 (ix2 g l) =
      Cert.ReferenceProof.refOut (Cert.KernelIdealProof.batchOf m) (Cert.KernelIdealProof.launchScores m)
        (m (0, Proc.tc.devRef Cert.KernelIdeal.main_arg0)) (m (0, Proc.tc.devRef Cert.KernelIdeal.main_arg7))
        (m (0, Proc.tc.devRef Cert.KernelIdeal.main_arg8)) (m (0, Proc.tc.devRef Cert.KernelIdeal.main_arg9))
        (m (0, Proc.tc.devRef Cert.KernelIdeal.main_arg10)) (m (0, Proc.tc.devRef Cert.KernelIdeal.main_arg11))
        (m (0, Proc.tc.devRef Cert.KernelIdeal.main_arg12)) (m (0, Proc.tc.devRef Cert.KernelIdeal.main_arg13))
        (m (0, Proc.tc.devRef Cert.KernelIdeal.main_arg14)) (m (0, Proc.tc.devRef Cert.KernelIdeal.main_arg15))
        (m (0, Proc.tc.devRef Cert.KernelIdeal.main_arg16)) (ix2 g l) := by
  have H := Cert.InputsProof.keys_of _ hr hn hf
  have A := Cert.InputsProof.apart _ _ ha
  exact (Cert.KernelIdealProof.kernelOut_graph m H A g l).trans (Cert.ReferenceProof.refOut_graph _ H _ _ A _ _ _ _ _ _ _ _ _ _ g l).symm

/-- The kernel and the reference, on well-posed inputs that agree, end with equal results. -/
theorem algebraic : Cert.algebraic_KernelIdeal_ReferenceIdeal_pre_well_posed (hKernelIdeal := Cert.KernelIdeal.Gen.facts)
    (hReferenceIdeal := Cert.ReferenceIdeal.Gen.facts) (hPre_well_posed := Cert.Pre_well_posed.Gen.facts) := by
  pair_intro
  · run_from Cert.KernelIdealProof.kernel_run m g & Cert.KernelIdeal.Gen.unchanged m g (Cert.KernelIdealProof.ok m) (Cert.KernelIdealProof.hyps m)
  · refine (θ_run _ _ _).mono (fun r h c => ⟨(h c).1.trans ?_, (h c).2⟩) (Cert.ReferenceIdeal.Value.run m' g')
    obtain rfl : c = 0 := Subsingleton.elim _ _
    obtain ⟨hr, hn, hf, ha⟩ := Cert.InputsProof.flags_of _ _ _ _ _ _ _ _ _ _ _ _ _ _ _ _ _ (hpre 0)
    obtain ⟨h0, h1, h2, h3, h4, h5, h6, h7, h8, h9, h10, h11, h12, h13, h14, h15, h16⟩ := hagree 0
    refine (Cert.ReferenceProof.result_eq _).trans ((Cert.ReferenceProof.resultOf_eq m' 0 _ _ _ _ _ _ _ _ _ _ _ _ _ _ _ _ _
      h0 h1 h2 h3 h4 h5 h6 h7 h8 h9 h10 h11 h12 h13 h14 h15 h16).trans ?_)
    refine funext fun y => ?_
    obtain ⟨a, l, rfl⟩ : ∃ a l, y = ix2 a l := ⟨y 0, y 1, eq_ix2 y⟩
    exact (results_agree m hr hn hf ha a l).symm

end Cert.PoolProof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_well_posed
public import proofs.«01_k».proof.Proof.Frames
public import proofs.«01_k».proof.Proof.Equation

@[expose] public section

noncomputable section

namespace Cert.Proof

open Cert.PoolProof

/-- The claim: the runs, the named constant and the equation of the results. -/
theorem claim : Cert.Claim :=
  ⟨Cert.Kernel.Gen.facts, Cert.KernelIdeal.Gen.facts, Cert.ReferenceIdeal.Gen.facts, Cert.Pre_well_posed.Gen.facts,
    kernel_runs, ideal_runs, ideal_runs_pre, reference_runs, reference_runs_pre, mask_preserved, algebraic⟩

end Cert.Proof

end
